-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v79_0)) (v1 : (c : Dev Cert.KernelIdeal.nD) → Buf (Elt Ideal) ((c.tc : Thread Cert.KernelIdeal.nD Cert.KernelIdeal.τ).loc Cert.KernelIdeal.main_v79_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79_0) = v0 c
          ∧ r.2.mem ((c.tc : Thread Cert.KernelIdeal.nD Cert.KernelIdeal.τ).loc Cert.KernelIdeal.main_v79_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x96x384x384 : Shape := ⟨4, ![4, 96, 384, 384]⟩
abbrev S4x1x192x192 : Shape := ⟨4, ![4, 1, 192, 192]⟩
abbrev S384 : Shape := ⟨1, ![384]⟩
abbrev S_ : Shape := ⟨0, ![]⟩
abbrev S192 : Shape := ⟨1, ![192]⟩
abbrev S1x192 : Shape := ⟨2, ![1, 192]⟩
abbrev S384x1 : Shape := ⟨2, ![384, 1]⟩
abbrev S384x192 : Shape := ⟨2, ![384, 192]⟩
abbrev S192x384 : Shape := ⟨2, ![192, 384]⟩
abbrev S4x1x384x384 : Shape := ⟨4, ![4, 1, 384, 384]⟩
abbrev S1x1x192x192 : Shape := ⟨4, ![1, 1, 192, 192]⟩
abbrev S1x48x192x384 : Shape := ⟨4, ![1, 48, 192, 384]⟩
abbrev S1x1x192x384 : Shape := ⟨4, ![1, 1, 192, 384]⟩
abbrev S384x384 : Shape := ⟨2, ![384, 384]⟩
abbrev S192x192 : Shape := ⟨2, ![192, 192]⟩

abbrev nBuf : Space → Nat
  | .hbm => 111
  | .vmem => 11
  | .smem => 0
  | _ => 0

abbrev bufTy : (tb : Table) → Fin (tcTables nBuf tb) → BufTy
  | .hbm, ⟨0, _⟩ => ⟨S4x96x384x384, .f32⟩
  | .hbm, ⟨1, _⟩ => ⟨S4x1x192x192, .f32⟩
  | .hbm, ⟨2, _⟩ => ⟨S384, .f32⟩
  | .hbm, ⟨3, _⟩ => ⟨S_, .f32⟩
  | .hbm, ⟨4, _⟩ => ⟨S384, .f32⟩
  | .hbm, ⟨5, _⟩ => ⟨S384, .f32⟩
  | .hbm, ⟨6, _⟩ => ⟨S_, .f32⟩
  | .hbm, ⟨7, _⟩ => ⟨S384, .f32⟩
  | .hbm, ⟨8, _⟩ => ⟨S384, .f32⟩
  | .hbm, ⟨9, _⟩ => ⟨S_, .f32⟩
  | .hbm, ⟨10, _⟩ => ⟨S384, .f32⟩
  | .hbm, ⟨11, _⟩ => ⟨S384, .f32⟩
  | .hbm, ⟨12, _⟩ => ⟨S_, .f32⟩
  | .hbm, ⟨13, _⟩ => ⟨S384, .f32⟩
  | .hbm, ⟨14, _⟩ => ⟨S384, .f32⟩
  | .hbm, ⟨15, _⟩ => ⟨S384, .f32⟩
  | .hbm, ⟨16, _⟩ => ⟨S384, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S384, .i32⟩
  | .hbm, ⟨21, _⟩ => ⟨S384, .i32⟩
  | .hbm, ⟨22, _⟩ => ⟨S_, .i32⟩
  | .hbm, ⟨23, _⟩ => ⟨S384, .i32⟩
  | .hbm, ⟨24, _⟩ => ⟨S384, .i32⟩
  | .hbm, ⟨25, _⟩ => ⟨S_, .i32⟩
  | .hbm, ⟨26, _⟩ => ⟨S384, .i32⟩
  | .hbm, ⟨27, _⟩ => ⟨S384, .i32⟩
  | .hbm, ⟨28, _⟩ => ⟨S_, .i32⟩
  | .hbm, ⟨29, _⟩ => ⟨S384, .i32⟩
  | .hbm, ⟨30, _⟩ => ⟨S384, .i32⟩
  | .hbm, ⟨31, _⟩ => ⟨S384, .f32⟩
  | .hbm, ⟨32, _⟩ => ⟨S384, .f32⟩
  | .hbm, ⟨33, _⟩ => ⟨S_, .f32⟩
  | .hbm, ⟨34, _⟩ => ⟨S384, .f32⟩
  | .hbm, ⟨35, _⟩ => ⟨S384, .f32⟩
  | .hbm, ⟨36, _⟩ => ⟨S192, .i32⟩
  | .hbm, ⟨37, _⟩ => ⟨S1x192, .i32⟩
  | .hbm, ⟨38, _⟩ => ⟨S384x1, .f32⟩
  | .hbm, ⟨39, _⟩ => ⟨S384x1, .i32⟩
  | .hbm, ⟨40, _⟩ => ⟨S384x192, .i32⟩
  | .hbm, ⟨41, _⟩ => ⟨S384x192, .i32⟩
  | .hbm, ⟨42, _⟩ => ⟨S384x192, .i1⟩
  | .hbm, ⟨43, _⟩ => ⟨S384x192, .f32⟩
  | .hbm, ⟨44, _⟩ => ⟨S384x192, .f32⟩
  | .hbm, ⟨45, _⟩ => ⟨S384x192, .f32⟩
  | .hbm, ⟨46, _⟩ => ⟨S384x1, .f32⟩
  | .hbm, ⟨47, _⟩ => ⟨S384x1, .i32⟩
  | .hbm, ⟨48, _⟩ => ⟨S384x192, .i32⟩
  | .hbm, ⟨49, _⟩ => ⟨S384x192, .i32⟩
  | .hbm, ⟨50, _⟩ => ⟨S384x192, .i1⟩
  | .hbm, ⟨51, _⟩ => ⟨S384x192, .f32⟩
  | .hbm, ⟨52, _⟩ => ⟨S384x192, .f32⟩
  | .hbm, ⟨53, _⟩ => ⟨S384x192, .f32⟩
  | .hbm, ⟨54, _⟩ => ⟨S384x192, .f32⟩
  | .hbm, ⟨55, _⟩ => ⟨S384, .f32⟩
  | .hbm, ⟨56, _⟩ => ⟨S_, .f32⟩
  | .hbm, ⟨57, _⟩ => ⟨S384, .f32⟩
  | .hbm, ⟨58, _⟩ => ⟨S384, .f32⟩
  | .hbm, ⟨59, _⟩ => ⟨S_, .f32⟩
  | .hbm, ⟨60, _⟩ => ⟨S384, .f32⟩
  | .hbm, ⟨61, _⟩ => ⟨S384, .f32⟩
  | .hbm, ⟨62, _⟩ => ⟨S_, .f32⟩
  | .hbm, ⟨63, _⟩ => ⟨S384, .f32⟩
  | .hbm, ⟨64, _⟩ => ⟨S384, .f32⟩
  | .hbm, ⟨65, _⟩ => ⟨S_, .f32⟩
  | .hbm, ⟨66, _⟩ => ⟨S384, .f32⟩
  | .hbm, ⟨67, _⟩ => ⟨S384, .f32⟩
  | .hbm, ⟨68, _⟩ => ⟨S384, .f32⟩
  | .hbm, ⟨69, _⟩ => ⟨S384, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S384, .i32⟩
  | .hbm, ⟨74, _⟩ => ⟨S384, .i32⟩
  | .hbm, ⟨75, _⟩ => ⟨S_, .i32⟩
  | .hbm, ⟨76, _⟩ => ⟨S384, .i32⟩
  | .hbm, ⟨77, _⟩ => ⟨S384, .i32⟩
  | .hbm, ⟨78, _⟩ => ⟨S_, .i32⟩
  | .hbm, ⟨79, _⟩ => ⟨S384, .i32⟩
  | .hbm, ⟨80, _⟩ => ⟨S384, .i32⟩
  | .hbm, ⟨81, _⟩ => ⟨S_, .i32⟩
  | .hbm, ⟨82, _⟩ => ⟨S384, .i32⟩
  | .hbm, ⟨83, _⟩ => ⟨S384, .i32⟩
  | .hbm, ⟨84, _⟩ => ⟨S384, .f32⟩
  | .hbm, ⟨85, _⟩ => ⟨S384, .f32⟩
  | .hbm, ⟨86, _⟩ => ⟨S_, .f32⟩
  | .hbm, ⟨87, _⟩ => ⟨S384, .f32⟩
  | .hbm, ⟨88, _⟩ => ⟨S384, .f32⟩
  | .hbm, ⟨89, _⟩ => ⟨S192, .i32⟩
  | .hbm, ⟨90, _⟩ => ⟨S1x192, .i32⟩
  | .hbm, ⟨91, _⟩ => ⟨S384x1, .f32⟩
  | .hbm, ⟨92, _⟩ => ⟨S384x1, .i32⟩
  | .hbm, ⟨93, _⟩ => ⟨S384x192, .i32⟩
  | .hbm, ⟨94, _⟩ => ⟨S384x192, .i32⟩
  | .hbm, ⟨95, _⟩ => ⟨S384x192, .i1⟩
  | .hbm, ⟨96, _⟩ => ⟨S384x192, .f32⟩
  | .hbm, ⟨97, _⟩ => ⟨S384x192, .f32⟩
  | .hbm, ⟨98, _⟩ => ⟨S384x192, .f32⟩
  | .hbm, ⟨99, _⟩ => ⟨S384x1, .f32⟩
  | .hbm, ⟨100, _⟩ => ⟨S384x1, .i32⟩
  | .hbm, ⟨101, _⟩ => ⟨S384x192, .i32⟩
  | .hbm, ⟨102, _⟩ => ⟨S384x192, .i32⟩
  | .hbm, ⟨103, _⟩ => ⟨S384x192, .i1⟩
  | .hbm, ⟨104, _⟩ => ⟨S384x192, .f32⟩
  | .hbm, ⟨105, _⟩ => ⟨S384x192, .f32⟩
  | .hbm, ⟨106, _⟩ => ⟨S384x192, .f32⟩
  | .hbm, ⟨107, _⟩ => ⟨S384x192, .f32⟩
  | .hbm, ⟨108, _⟩ => ⟨S192x384, .f32⟩
  | .hbm, ⟨109, _⟩ => ⟨S4x96x384x384, .f32⟩
  | .hbm, ⟨110, _⟩ => ⟨S4x1x384x384, .f32⟩
  | .local _ .vmem, ⟨0, _⟩ => ⟨S1x1x192x192, .f32⟩
  | .local _ .vmem, ⟨1, _⟩ => ⟨S1x1x192x192, .f32⟩
  | .local _ .vmem, ⟨2, _⟩ => ⟨S384x192, .f32⟩
  | .local _ .vmem, ⟨3, _⟩ => ⟨S192x384, .f32⟩
  | .local _ .vmem, ⟨4, _⟩ => ⟨S1x48x192x384, .f32⟩
  | .local _ .vmem, ⟨5, _⟩ => ⟨S1x48x192x384, .f32⟩
  | .local _ .vmem, ⟨6, _⟩ => ⟨S1x48x192x384, .f32⟩
  | .local _ .vmem, ⟨7, _⟩ => ⟨S1x48x192x384, .f32⟩
  | .local _ .vmem, ⟨8, _⟩ => ⟨S1x1x192x384, .f32⟩
  | .local _ .vmem, ⟨9, _⟩ => ⟨S1x1x192x384, .f32⟩
  | .local _ .vmem, ⟨10, _⟩ => ⟨S384x384, .f32⟩
  | _, _ => ⟨S4x96x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_c_3 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v11 : Ref sig .tc := ⟨.hbm, 24, rfl⟩
abbrev main_c_4 : Ref sig .tc := ⟨.hbm, 25, rfl⟩
abbrev main_v12 : Ref sig .tc := ⟨.hbm, 26, rfl⟩
abbrev main_v13 : Ref sig .tc := ⟨.hbm, 27, rfl⟩
abbrev main_c_5 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_6 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_11 : Ref sig .tc := ⟨.hbm, 70, rfl⟩
abbrev main_c_12 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_v50 : Ref sig .tc := ⟨.hbm, 77, rfl⟩
abbrev main_c_13 : Ref sig .tc := ⟨.hbm, 78, rfl⟩
abbrev main_v51 : Ref sig .tc := ⟨.hbm, 79, rfl⟩
abbrev main_v52 : Ref sig .tc := ⟨.hbm, 80, rfl⟩
abbrev main_c_14 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_15 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79_0 : Ref sig .tc := ⟨.hbm, 109, rfl⟩
abbrev main_v79_1 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 2, 2], ![false, false, false]⟩

def k0_off1 (i : grid0.Coords) : Fin 2 → Nat :=
  let arg1 : BitVec 32 := BitVec.ofNat 32 (i 1).val
  let c192_i32 : BitVec 32 := 192#32
  let v5 : BitVec 32 := Scalar.muli arg1 c192_i32
  let v6 : Index := Scalar.indexCast v5
  let c0 : Index := 0#32
  ![v6.toNat, 0]
def k0_cond2 (i : grid0.Coords) : BitVec 1 :=
  let arg2 : BitVec 32 := BitVec.ofNat 32 (i 2).val
  let c0_i32_2 : BitVec 32 := 0#32
  let v8 : BitVec 1 := Scalar.cmpi .eq arg2 c0_i32_2
  let v9 : BitVec 32 := Scalar.extui v8
  let c0_i32_3 : BitVec 32 := 0#32
  let v10 : BitVec 1 := Scalar.cmpi .ne v9 c0_i32_3
  v10

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x1x192x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S384x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S192x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x48x192x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x48x192x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x192x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceIdeal.lean ====
abbrev S4x96x384x384 : Shape := ⟨4, ![4, 96, 384, 384]⟩
abbrev S4x1x192x192 : Shape := ⟨4, ![4, 1, 192, 192]⟩
abbrev S384 : Shape := ⟨1, ![384]⟩
abbrev S_ : Shape := ⟨0, ![]⟩
abbrev S384x1 : Shape := ⟨2, ![384, 1]⟩
abbrev S4x1x384x192 : Shape := ⟨4, ![4, 1, 384, 192]⟩
abbrev S1x1x384x1 : Shape := ⟨4, ![1, 1, 384, 1]⟩
abbrev S4x1x384x384 : Shape := ⟨4, ![4, 1, 384, 384]⟩
abbrev S1x1x1x384 : Shape := ⟨4, ![1, 1, 1, 384]⟩

abbrev nBuf : Space → Nat
  | .hbm => 139
  | .vmem => 0
  | .smem => 0
  | _ => 0

abbrev hbmTy0_0 (i : Nat) : BufTy := match i % 128 with
  | 0 => ⟨S4x96x384x384, .f32⟩
  | 1 => ⟨S4x1x192x192, .f32⟩
  | 2 => ⟨S384, .f32⟩
  | 3 => ⟨S_, .f32⟩
  | 4 => ⟨S384, .f32⟩
  | 5 => ⟨S384, .f32⟩
  | 6 => ⟨S_, .f32⟩
  | 7 => ⟨S384, .f32⟩
  | 8 => ⟨S384, .f32⟩
  | 9 => ⟨S_, .f32⟩
  | 10 => ⟨S384, .f32⟩
  | 11 => ⟨S384, .f32⟩
  | 12 => ⟨S_, .f32⟩
  | 13 => ⟨S384, .f32⟩
  | 14 => ⟨S384, .f32⟩
  | 15 => ⟨S384, .f32⟩
  | 16 => ⟨S384, .i32⟩
  | 17 => ⟨S_, .i32⟩
  | 18 => ⟨S_, .i32⟩
  | 19 => ⟨S_, .i32⟩
  | 20 => ⟨S384, .i32⟩
  | 21 => ⟨S384, .i32⟩
  | 22 => ⟨S_, .i32⟩
  | 23 => ⟨S384, .i32⟩
  | 24 => ⟨S384, .i32⟩
  | 25 => ⟨S_, .i32⟩
  | 26 => ⟨S384, .i32⟩
  | 27 => ⟨S384, .i32⟩
  | 28 => ⟨S_, .i32⟩
  | 29 => ⟨S384, .i32⟩
  | 30 => ⟨S384, .i32⟩
  | 31 => ⟨S384, .f32⟩
  | 32 => ⟨S384, .f32⟩
  | 33 => ⟨S_, .f32⟩
  | 34 => ⟨S384, .f32⟩
  | 35 => ⟨S384, .f32⟩
  | 36 => ⟨S384, .f32⟩
  | 37 => ⟨S_, .f32⟩
  | 38 => ⟨S384, .f32⟩
  | 39 => ⟨S384, .f32⟩
  | 40 => ⟨S_, .f32⟩
  | 41 => ⟨S384, .f32⟩
  | 42 => ⟨S384, .f32⟩
  | 43 => ⟨S_, .f32⟩
  | 44 => ⟨S384, .f32⟩
  | 45 => ⟨S384, .f32⟩
  | 46 => ⟨S_, .f32⟩
  | 47 => ⟨S384, .f32⟩
  | 48 => ⟨S384, .f32⟩
  | 49 => ⟨S384, .f32⟩
  | 50 => ⟨S384, .i32⟩
  | 51 => ⟨S_, .i32⟩
  | 52 => ⟨S_, .i32⟩
  | 53 => ⟨S_, .i32⟩
  | 54 => ⟨S384, .i32⟩
  | 55 => ⟨S384, .i32⟩
  | 56 => ⟨S_, .i32⟩
  | 57 => ⟨S384, .i32⟩
  | 58 => ⟨S384, .i32⟩
  | 59 => ⟨S_, .i32⟩
  | 60 => ⟨S384, .i32⟩
  | 61 => ⟨S384, .i32⟩
  | 62 => ⟨S_, .i32⟩
  | 63 => ⟨S384, .i32⟩
  | 64 => ⟨S384, .i32⟩
  | 65 => ⟨S384, .f32⟩
  | 66 => ⟨S384, .f32⟩
  | 67 => ⟨S_, .f32⟩
  | 68 => ⟨S384, .f32⟩
  | 69 => ⟨S384, .f32⟩
  | 70 => ⟨S_, .i32⟩
  | 71 => ⟨S384, .i32⟩
  | 72 => ⟨S384, .i1⟩
  | 73 => ⟨S_, .i32⟩
  | 74 => ⟨S384, .i32⟩
  | 75 => ⟨S384, .i32⟩
  | 76 => ⟨S384, .i32⟩
  | 77 => ⟨S384x1, .i32⟩
  | 78 => ⟨S4x1x384x192, .f32⟩
  | 79 => ⟨S1x1x384x1, .f32⟩
  | 80 => ⟨S4x1x384x192, .f32⟩
  | 81 => ⟨S4x1x384x192, .f32⟩
  | 82 => ⟨S_, .i32⟩
  | 83 => ⟨S384, .i32⟩
  | 84 => ⟨S384, .i1⟩
  | 85 => ⟨S_, .i32⟩
  | 86 => ⟨S384, .i32⟩
  | 87 => ⟨S384, .i32⟩
  | 88 => ⟨S384, .i32⟩
  | 89 => ⟨S384x1, .i32⟩
  | 90 => ⟨S4x1x384x192, .f32⟩
  | 91 => ⟨S1x1x384x1, .f32⟩
  | 92 => ⟨S4x1x384x192, .f32⟩
  | 93 => ⟨S4x1x384x192, .f32⟩
  | 94 => ⟨S4x1x384x192, .f32⟩
  | 95 => ⟨S_, .i32⟩
  | 96 => ⟨S384, .i32⟩
  | 97 => ⟨S384, .i1⟩
  | 98 => ⟨S_, .i32⟩
  | 99 => ⟨S384, .i32⟩
  | 100 => ⟨S384, .i32⟩
  | 101 => ⟨S384, .i32⟩
  | 102 => ⟨S384x1, .i32⟩
  | 103 => ⟨S4x1x384x384, .f32⟩
  | 104 => ⟨S1x1x1x384, .f32⟩
  | 105 => ⟨S4x1x384x384, .f32⟩
  | 106 => ⟨S4x1x384x384, .f32⟩
  | 107 => ⟨S_, .i32⟩
  | 108 => ⟨S384, .i32⟩
  | 109 => ⟨S384, .i1⟩
  | 110 => ⟨S_, .i32⟩
  | 111 => ⟨S384, .i32⟩
  | 112 => ⟨S384, .i32⟩
  | 113 => ⟨S384, .i32⟩
  | 114 => ⟨S384x1, .i32⟩
  | 115 => ⟨S4x1x384x384, .f32⟩
  | 116 => ⟨S1x1x1x384, .f32⟩
  | 117 => ⟨S4x1x384x384, .f32⟩
  | 118 => ⟨S4x1x384x384, .f32⟩
  | 119 => ⟨S4x1x384x384, .f32⟩
  | 120 => ⟨S_, .f32⟩
  | 121 => ⟨S4x1x384x384, .f32⟩
  | 122 => ⟨S4x1x384x384, .f32⟩
  | 123 => ⟨S_, .f32⟩
  | 124 => ⟨S4x1x384x384, .f32⟩
  | 125 => ⟨S4x1x384x384, .f32⟩
  | 126 => ⟨S4x1x384x384, .f32⟩
  | 127 => ⟨S4x1x384x384, .f32⟩
  | _ => ⟨S4x96x384x384, .f32⟩

abbrev hbmTy0_1 (i : Nat) : BufTy := match i % 128 with
  | 0 => ⟨S_, .f32⟩
  | 1 => ⟨S4x1x384x384, .f32⟩
  | 2 => ⟨S4x1x384x384, .f32⟩
  | 3 => ⟨S_, .f32⟩
  | 4 => ⟨S4x1x384x384, .f32⟩
  | 5 => ⟨S4x1x384x384, .f32⟩
  | 6 => ⟨S_, .f32⟩
  | 7 => ⟨S4x1x384x384, .f32⟩
  | 8 => ⟨S4x1x384x384, .f32⟩
  | 9 => ⟨S4x96x384x384, .f32⟩
  | 10 => ⟨S4x96x384x384, .f32⟩
  | _ => ⟨S4x96x384x384, .f32⟩

abbrev hbmTy (i : Nat) : BufTy := match i / 128 with
  | 0 => hbmTy0_0 i
  | 1 => hbmTy0_1 i
  | _ => ⟨S4x96x384x384, .f32⟩

abbrev bufTy : (tb : Table) → Fin (tcTables nBuf tb) → BufTy
  | .hbm, ⟨i, _⟩ => hbmTy i
  | _, _ => ⟨S4x96x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_c_3 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v11 : Ref sig .tc := ⟨.hbm, 24, rfl⟩
abbrev main_c_4 : Ref sig .tc := ⟨.hbm, 25, rfl⟩
abbrev main_v12 : Ref sig .tc := ⟨.hbm, 26, rfl⟩
abbrev main_v13 : Ref sig .tc := ⟨.hbm, 27, rfl⟩
abbrev main_c_5 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_6 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_7 : Ref sig .tc := ⟨.hbm, 37, rfl⟩
abbrev main_v21 : Ref sig .tc := ⟨.hbm, 38, rfl⟩
abbrev main_v22 : Ref sig .tc := ⟨.hbm, 39, rfl⟩
abbrev main_cst_8 : Ref sig .tc := ⟨.hbm, 40, rfl⟩
abbrev main_v23 : Ref sig .tc := ⟨.hbm, 41, rfl⟩
abbrev main_v24 : Ref sig .tc := ⟨.hbm, 42, rfl⟩
abbrev main_cst_9 : Ref sig .tc := ⟨.hbm, 43, rfl⟩
abbrev main_v25 : Ref sig .tc := ⟨.hbm, 44, rfl⟩
abbrev main_v26 : Ref sig .tc := ⟨.hbm, 45, rfl⟩
abbrev main_cst_10 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_11 : Ref sig .tc := ⟨.hbm, 51, rfl⟩
abbrev main_c_12 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_v31 : Ref sig .tc := ⟨.hbm, 58, rfl⟩
abbrev main_c_13 : Ref sig .tc := ⟨.hbm, 59, rfl⟩
abbrev main_v32 : Ref sig .tc := ⟨.hbm, 60, rfl⟩
abbrev main_v33 : Ref sig .tc := ⟨.hbm, 61, rfl⟩
abbrev main_c_14 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_15 : Ref sig .tc := ⟨.hbm, 67, rfl⟩
abbrev main_v38 : Ref sig .tc := ⟨.hbm, 68, rfl⟩
abbrev main_v39 : Ref sig .tc := ⟨.hbm, 69, rfl⟩
abbrev main_c_16 : Ref sig .tc := ⟨.hbm, 70, rfl⟩
abbrev main_v40 : Ref sig .tc := ⟨.hbm, 71, rfl⟩
abbrev main_v41 : Ref sig .tc := ⟨.hbm, 72, rfl⟩
abbrev main_c_17 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_c_18 : Ref sig .tc := ⟨.hbm, 82, rfl⟩
abbrev main_v50 : Ref sig .tc := ⟨.hbm, 83, rfl⟩
abbrev main_v51 : Ref sig .tc := ⟨.hbm, 84, rfl⟩
abbrev main_c_19 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_c_20 : Ref sig .tc := ⟨.hbm, 95, rfl⟩
abbrev main_v61 : Ref sig .tc := ⟨.hbm, 96, rfl⟩
abbrev main_v62 : Ref sig .tc := ⟨.hbm, 97, rfl⟩
abbrev main_c_21 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_c_22 : Ref sig .tc := ⟨.hbm, 107, rfl⟩
abbrev main_v71 : Ref sig .tc := ⟨.hbm, 108, rfl⟩
abbrev main_v72 : Ref sig .tc := ⟨.hbm, 109, rfl⟩
abbrev main_c_23 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_24 : Ref sig .tc := ⟨.hbm, 120, rfl⟩
abbrev main_v82 : Ref sig .tc := ⟨.hbm, 121, rfl⟩
abbrev main_v83 : Ref sig .tc := ⟨.hbm, 122, rfl⟩
abbrev main_cst_25 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_26 : Ref sig .tc := ⟨.hbm, 128, rfl⟩
abbrev main_v88 : Ref sig .tc := ⟨.hbm, 129, rfl⟩
abbrev main_v89 : Ref sig .tc := ⟨.hbm, 130, rfl⟩
abbrev main_cst_27 : Ref sig .tc := ⟨.hbm, 131, rfl⟩
abbrev main_v90 : Ref sig .tc := ⟨.hbm, 132, rfl⟩
abbrev main_v91 : Ref sig .tc := ⟨.hbm, 133, rfl⟩
abbrev main_cst_28 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩

abbrev nD : Nat := 1
abbrev τ : Topo := Topo.v7x

variable {F : FTy → Type} [FloatOps F]
-- ==== Proof.SameProgram.lean ====
/-
  The kernel and its ideal reading are one program text: what is proved of one at any float values holds of the other.
-/
module

public import proofs.«01_k».proof.Defs
public import proofs.«01_k».proof.Proof.Gen.Kernel
public import proofs.«01_k».proof.Proof.Gen.KernelIdeal

@[expose] public section

set_option maxRecDepth 65536

noncomputable section

namespace Cert.Proof

open Idealize.ShloMosaic Idealize.SL.Sem

variable {F : FTy → Type} [FloatOps F]

/-- The two launches have the same bodies. -/
theorem defs0_same : @Cert.Kernel.defs₀ F _ _ = @Cert.KernelIdeal.defs₀ F _ _ := by
  unfold Cert.Kernel.defs₀ Cert.KernelIdeal.defs₀
  refine congrArg _ ?_
  funext l a
  match l, a with
  | 0, (t, s) => rfl

/-- The two programs have the same procedures. -/
theorem defs_same : @Cert.Kernel.defs F _ _ = @Cert.KernelIdeal.defs F _ _ := by
  unfold Cert.Kernel.defs Cert.KernelIdeal.defs
  rw [defs0_same]
  rfl

set_option maxHeartbeats 4000000 in
/-- The two programs have the same entry. -/
theorem main_same : @Cert.Kernel.main F _ _ = @Cert.KernelIdeal.main F _ _ := rfl

/-- A frame of the ideal program, at any float values, is a frame of the kernel. -/
theorem frame_same
    (h : ∀ (m : (ℓ : Loc Cert.KernelIdeal.nD Cert.KernelIdeal.τ Cert.KernelIdeal.sig) → Buf (Elt F) ℓ) (g : Dev Cert.KernelIdeal.nD → PrngReg),
      θ_run Cert.KernelIdeal.defs (onTc (τ := Cert.KernelIdeal.τ) (Cert.KernelIdeal.main (F := F))) ⟨m, fun _ => 0, g⟩ (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0))
    (m : (ℓ : Loc Cert.Kernel.nD Cert.Kernel.τ Cert.Kernel.sig) → Buf (Elt F) ℓ) (g : Dev Cert.Kernel.nD → PrngReg) :
    θ_run Cert.Kernel.defs (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  rw [defs_same, main_same]
  exact h m g

end Cert.Proof

end
-- ==== Proof.Body.lean ====
/-
  The kernel body run once, in each of the three cases its two conditions make over the 16 grid points.
  A point is `(b, h, c)`: image, half of the rows, half of the channels. The body computes the whole 384 x 384
  mask of the image into the scratch buffer at `h = c = 0`, copies the half `h` of it to the second output at
  `c = 0`, and always multiplies the feature block by that half plus 0.1.
-/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.Value

@[expose] public section

set_option maxRecDepth 16384

noncomputable section

namespace Cert.KernelIdeal.Upsample

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, over the points -/

/-- The body's first condition: `h = 0` and `c = 0`. -/
abbrev firstOfImage (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1

/-- It holds at every fourth point. -/
theorem firstOfImage_iff (t : Fin cfg0.N) : firstOfImage (grid0.coords t) ↔ t.val % 4 = 0 := by
  have ht : t.val < 16 := Nat.lt_of_lt_of_eq t.isLt N_0
  have e1 : (grid0.coords t 1).val = t.val / 2 % 2 := Pipeline.Grid.coords_val t 1 (by decide) rfl
  have e2 : (grid0.coords t 2).val = t.val / 1 % 2 := Pipeline.Grid.coords_val t 2 (by decide) rfl
  simp only [firstOfImage, e1, e2]
  word_cmp

/-- The body's second condition, `c = 0`, holds at the even points. -/
theorem firstOfHalf_iff (t : Fin cfg0.N) : k0_cond2 (grid0.coords t) = 1#1 ↔ t.val % 2 = 0 := by
  have ht : t.val < 16 := Nat.lt_of_lt_of_eq t.isLt N_0
  have e1 : (grid0.coords t 1).val = t.val / 2 % 2 := Pipeline.Grid.coords_val t 1 (by decide) rfl
  have e2 : (grid0.coords t 2).val = t.val / 1 % 2 := Pipeline.Grid.coords_val t 2 (by decide) rfl
  simp only [k0_cond2, e1, e2]
  word_cmp

/-! ## What the body leaves -/

/-- The half of the rows of a 384 x 384 mask that the point works on. -/
def half (i : grid0.Coords) (mask : Vec F S384x384 .f32) : Vec F S192x384 .f32 :=
  View.ld mask (Rect.unit (s := S384x384) (k0_off1 i) S192x384.size (k0_off1_inb i))

/-- The two zero offsets, as a constant function. -/
theorem zero2 : (![0, 0] : Fin 2 → Nat) = fun _ => 0 := by funext a; fin_cases a <;> rfl
/-- The four zero offsets, as a constant function. -/
theorem zero4 : (![0, 0, 0, 0] : Fin 4 → Nat) = fun _ => 0 := by funext a; fin_cases a <;> rfl

/-- One store of the whole buffer leaves the stored value. -/
theorem read_stored {sp : Space} {S : Shape} {e : EltTy} (v : View sig .tc sp S e) (f : v.ty.Contents (Elt F)) {off : Fin S.rank → Nat}
    (h : off = fun _ => 0) (inb : ∀ a, off a + S.size a ≤ S.size a) (w : S.Idx → Elt F e) :
    v.read (Elt F) (v.writes (Elt F) f [⟨Rect.unit off S.size inb, w⟩]) = w := by
  rw [View.read_writes_eq_canon _ _ _ (fun y => ⟨_, List.mem_singleton_self _, View.mem_set_unit_zero h inb y⟩), View.canon_unit_zero h]

/-- A load of the whole of a buffer holding `x` reads `x`. -/
theorem load_whole {sp : Space} {S : Shape} {e : EltTy} (M : Memref sig .tc sp S e) (hM : M.IsWhole) (x : S.Idx → Elt F e) {off : Fin S.rank → Nat}
    (h : off = fun _ => 0) (inb : ∀ a, off a + S.size a ≤ S.size a) :
    M.view.readAt (Elt F) (Rect.unit off S.size inb).toLoadRect (hM.unread x) = x := by
  rw [View.readAt_eq_ld, hM.read_unread, View.ld_unit_zero h]

/-- A load of half of the rows of a scratch buffer holding `mask` reads that half of it. -/
theorem load_half_held (M : Memref sig .tc .vmem S384x384 .f32) (hM : M.IsWhole) (i : grid0.Coords) (mask : Vec F S384x384 .f32) :
    M.view.readAt (Elt F) (Rect.unit (s := S384x384) (k0_off1 i) S192x384.size (k0_off1_inb i)).toLoadRect (hM.unread mask) = half i mask := by
  rw [View.readAt_eq_ld, hM.read_unread]
  rfl

/-- A load of half of the rows after one store of the whole mask reads that half of it. -/
theorem load_half (v : View sig .tc .vmem S384x384 .f32) (i : grid0.Coords) (mask : Vec F S384x384 .f32) (inb : ∀ a, (![0, 0] : Fin 2 → Nat) a + S384x384.size a ≤ S384x384.size a) :
    v.readCov [(⟨Rect.unit (s := S384x384) ![0, 0] S384x384.size inb, mask⟩ : View.Piece (Elt F) S384x384 .f32)]
      (Rect.unit (s := S384x384) (k0_off1 i) S192x384.size (k0_off1_inb i)).toLoadRect = half i mask := by
  rw [View.readCov_eq_canon_ld _ _ _ (fun y => ⟨_, List.mem_singleton_self _, View.mem_set_unit_zero zero2 inb y⟩), View.canon_unit_zero zero2]
  rfl

set_option maxHeartbeats 1000000 in
/-- At an image's first point the body fills the scratch buffer with the mask of the image block `x0` and writes both output blocks from it. -/
theorem run_first (c : Dev nD) (i : grid0.Coords) (arg3 : Memref sig .tc .vmem S1x1x192x192 .f32) (harg3 : arg3.IsWhole) (arg4 : Memref sig .tc .vmem S384x192 .f32) (harg4 : arg4.IsWhole) (arg5 : Memref sig .tc .vmem S192x384 .f32) (harg5 : arg5.IsWhole) (arg6 : Memref sig .tc .vmem S1x48x192x384 .f32) (harg6 : arg6.IsWhole) (arg7 : Memref sig .tc .vmem S1x48x192x384 .f32) (harg7 : arg7.IsWhole) (arg8 : Memref sig .tc .vmem S1x1x192x384 .f32) (harg8 : arg8.IsWhole) (arg9 : Memref sig .tc .vmem S384x384 .f32) (harg9 : arg9.IsWhole)
    (hc0 : firstOfImage i) (hc1 : k0_cond2 i = 1#1)
    (x0 : Vec F S1x1x192x192 .f32) (x1 : Vec F S384x192 .f32) (x2 : Vec F S192x384 .f32) (x3 : Vec F S1x48x192x384 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (k0_pay3 (half i (k0_pay1 x0 x1 x2)) x3) ∗ owns (c : Thread nD τ) arg8 fullShare (k0_pay2 (half i (k0_pay1 x0 x1 x2))) ∗ owns (c : Thread nD τ) arg9 fullShare (k0_pay1 x0 x1 x2)) -∗ K ⟨⟩))
      ⊢ wp frame (wpE (defs₀ (F := F)) Variants.none c none) E (cc0_body i arg3 harg3 arg4 harg4 arg5 harg5 arg6 harg6 arg7 harg7 arg8 harg8 arg9 harg9) K := by
  simp only [cc0_body_eq_skeleton]; unfold cc0_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  obtain rfl := harg3.eq_unread hf0; obtain rfl := harg4.eq_unread hf1; obtain rfl := harg5.eq_unread hf2; obtain rfl := harg6.eq_unread hf3
  sl_exec (disch := first | sl_exact hc0 | sl_exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; swap; · iexact H4
    ipureintro
    rw [read_stored _ _ zero4]
    refine congrArg₂ k0_pay3 ((load_half _ _ _ _).trans ?_) (load_whole _ harg6 _ zero4 _)
    rw [load_whole _ harg3 _ zero4, load_whole _ harg4 _ zero2, load_whole _ harg5 _ zero2]
  isplitl [H5]
  · iexists _; isplitr; swap; · iexact H5
    ipureintro
    rw [read_stored _ _ zero4]
    refine congrArg k0_pay2 ((load_half _ _ _ _).trans ?_)
    rw [load_whole _ harg3 _ zero4, load_whole _ harg4 _ zero2, load_whole _ harg5 _ zero2]
  iexists _; isplitr; swap; · iexact H6
  ipureintro
  sl_unfold_words
  rw [read_stored _ _ zero2, load_whole _ harg3 _ zero4, load_whole _ harg4 _ zero2, load_whole _ harg5 _ zero2]

set_option maxHeartbeats 1000000 in
/-- At the first point of a later half the scratch buffer still holds the image's `mask`, and the body writes both output blocks from its half of it. -/
theorem run_half (c : Dev nD) (i : grid0.Coords) (arg3 : Memref sig .tc .vmem S1x1x192x192 .f32) (harg3 : arg3.IsWhole) (arg4 : Memref sig .tc .vmem S384x192 .f32) (harg4 : arg4.IsWhole) (arg5 : Memref sig .tc .vmem S192x384 .f32) (harg5 : arg5.IsWhole) (arg6 : Memref sig .tc .vmem S1x48x192x384 .f32) (harg6 : arg6.IsWhole) (arg7 : Memref sig .tc .vmem S1x48x192x384 .f32) (harg7 : arg7.IsWhole) (arg8 : Memref sig .tc .vmem S1x1x192x384 .f32) (harg8 : arg8.IsWhole) (arg9 : Memref sig .tc .vmem S384x384 .f32) (harg9 : arg9.IsWhole)
    (hc0 : ¬ firstOfImage i) (hc1 : k0_cond2 i = 1#1)
    (x0 : Vec F S1x1x192x192 .f32) (x1 : Vec F S384x192 .f32) (x2 : Vec F S192x384 .f32) (x3 : Vec F S1x48x192x384 .f32) (mask : Vec F S384x384 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ owns (c : Thread nD τ) arg9 fullShare mask
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (k0_pay3 (half i mask) x3) ∗ owns (c : Thread nD τ) arg8 fullShare (k0_pay2 (half i mask)) ∗ owns (c : Thread nD τ) arg9 fullShare mask) -∗ K ⟨⟩))
      ⊢ wp frame (wpE (defs₀ (F := F)) Variants.none c none) E (cc0_body i arg3 harg3 arg4 harg4 arg5 harg5 arg6 harg6 arg7 harg7 arg8 harg8 arg9 harg9) K := by
  simp only [cc0_body_eq_skeleton]; unfold cc0_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, Hk⟩
  obtain rfl := harg3.eq_unread hf0; obtain rfl := harg4.eq_unread hf1; obtain rfl := harg5.eq_unread hf2; obtain rfl := harg6.eq_unread hf3; obtain rfl := harg9.eq_unread hf6
  sl_exec (disch := first | sl_exact hc0 | sl_exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; swap; · iexact H4
    ipureintro
    rw [read_stored _ _ zero4]
    exact congrArg₂ k0_pay3 (load_half_held _ _ _ _) (load_whole _ harg6 _ zero4 _)
  isplitl [H5]
  · iexists _; isplitr; swap; · iexact H5
    ipureintro
    rw [read_stored _ _ zero4]
    exact congrArg k0_pay2 (load_half_held _ _ _ _)
  iexists _; isplitr; · ipureintro; exact harg9.read_unread _
  iexact H6

set_option maxHeartbeats 1000000 in
/-- At the other points the body writes the first output's block from the held `mask` and touches nothing else. -/
theorem run_rest (c : Dev nD) (i : grid0.Coords) (arg3 : Memref sig .tc .vmem S1x1x192x192 .f32) (harg3 : arg3.IsWhole) (arg4 : Memref sig .tc .vmem S384x192 .f32) (harg4 : arg4.IsWhole) (arg5 : Memref sig .tc .vmem S192x384 .f32) (harg5 : arg5.IsWhole) (arg6 : Memref sig .tc .vmem S1x48x192x384 .f32) (harg6 : arg6.IsWhole) (arg7 : Memref sig .tc .vmem S1x48x192x384 .f32) (harg7 : arg7.IsWhole) (arg8 : Memref sig .tc .vmem S1x1x192x384 .f32) (harg8 : arg8.IsWhole) (arg9 : Memref sig .tc .vmem S384x384 .f32) (harg9 : arg9.IsWhole)
    (hc0 : ¬ firstOfImage i) (hc1 : ¬ k0_cond2 i = 1#1)
    (x0 : Vec F S1x1x192x192 .f32) (x1 : Vec F S384x192 .f32) (x2 : Vec F S192x384 .f32) (x3 : Vec F S1x48x192x384 .f32) (mask : Vec F S384x384 .f32) (d5 : Vec F S1x1x192x384 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare d5 ∗ owns (c : Thread nD τ) arg9 fullShare mask
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (k0_pay3 (half i mask) x3) ∗ owns (c : Thread nD τ) arg8 fullShare d5 ∗ owns (c : Thread nD τ) arg9 fullShare mask) -∗ K ⟨⟩))
      ⊢ wp frame (wpE (defs₀ (F := F)) Variants.none c none) E (cc0_body i arg3 harg3 arg4 harg4 arg5 harg5 arg6 harg6 arg7 harg7 arg8 harg8 arg9 harg9) K := by
  simp only [cc0_body_eq_skeleton]; unfold cc0_body_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  obtain rfl := harg3.eq_unread hf0; obtain rfl := harg4.eq_unread hf1; obtain rfl := harg5.eq_unread hf2; obtain rfl := harg6.eq_unread hf3; obtain rfl := harg9.eq_unread hf6; obtain rfl := harg8.eq_unread hf5
  sl_exec (disch := first | sl_exact hc0 | sl_exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; swap; · iexact H4
    ipureintro
    rw [read_stored _ _ zero4]
    exact congrArg₂ k0_pay3 (load_half_held _ _ _ _) (load_whole _ harg6 _ zero4 _)
  isplitl [H5]
  · iexists _; isplitr; · ipureintro; exact harg8.read_unread _
    iexact H5
  iexists _; isplitr; · ipureintro; exact harg9.read_unread _
  iexact H6

end Cert.KernelIdeal.Upsample

end
-- ==== Proof.Blocks.lean ====
/-
  The kernel's whole run. What the scratch buffer holds between the points, what every block of the two outputs
  holds when its point is over, and from these the run of the printed program to its final state.
-/
module

public import proofs.«01_k».proof.Proof.Body
public import Idealize.ShloMosaic.Lib.Claim

@[expose] public section

set_option maxRecDepth 16384

noncomputable section

namespace Cert.KernelIdeal.Upsample

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The mask of the image a point belongs to -/

/-- The first of the four points of `t`'s image. -/
def start (t : Fin cfg0.N) : Fin cfg0.N := ⟨t.val / 4 * 4, Nat.lt_of_le_of_lt (Nat.div_mul_le_self _ _) t.isLt⟩

/-- The mask computed at the first point of `t`'s image. -/
def maskAt (c : Dev nD) (t : Fin cfg0.N) : Vec F S384x384 .f32 :=
  k0_pay1 (iblk m c 0 (start t)) (iblk m c 1 (start t)) (iblk m c 2 (start t))

/-- An image's first point is its own start. -/
theorem start_of_mod {t : Fin cfg0.N} (h : t.val % 4 = 0) : start t = t := Fin.ext (by show t.val / 4 * 4 = t.val; omega)

/-- A point and the one before it, in one image, have the same start. -/
theorem start_pred {t t' : Fin cfg0.N} (h : t.val % 4 ≠ 0) (ht' : t'.val = t.val - 1) : start t' = start t :=
  Fin.ext (by show t'.val / 4 * 4 = t.val / 4 * 4; omega)

/-- Two points of one image have one mask. -/
theorem maskAt_pred (c : Dev nD) {t t' : Fin cfg0.N} (h : t.val % 4 ≠ 0) (ht' : t'.val = t.val - 1) : maskAt m c t' = maskAt m c t := by
  unfold maskAt; rw [start_pred h ht']

/-- The half a point works on depends only on its second coordinate. -/
theorem half_congr {i i' : grid0.Coords} (h : i 1 = i' 1) (mask : Vec F S384x384 .f32) : half i mask = half i' mask := by
  have e : k0_off1 i = k0_off1 i' := by unfold k0_off1; rw [h]
  unfold half
  generalize k0_off1_inb i = p
  generalize k0_off1_inb i' = p'
  revert p p'
  rw [e]
  intro p p'
  rfl

/-! ## The proof data -/

/-- The scratch buffer before point `n`: anything where an image begins, else the mask of the image of the point before. -/
def held (c : Dev nD) (n : Nat) (hn : n ≤ cfg0.N) : sProp 𝕄 :=
  if h : n % 4 = 0 then iprop(∃ d, owns (c : Thread nD τ) (Memref.whole cc0_scratch0) fullShare d)
  else owns (c : Thread nD τ) (Memref.whole cc0_scratch0) fullShare (maskAt m c ⟨n - 1, by have : n ≠ 0 := fun e => h (by rw [e]); omega⟩)

/-- What the kernel's six windows hold after each point, and the scratch buffer in between. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay3 (half (grid0.coords t) (maskAt m c t)) (iblk m c 3 t)
    | ⟨5, _⟩ => k0_pay2 (half (grid0.coords t) (maskAt m c t))
  Φ n := iprop(held m c n.val (Nat.le_of_lt_succ n.isLt) ∗ (∃ r, prngReg c r))
  q _ := fullShare
  owed _ := 0

/-- Each array enters the launch with what the host code left there. -/
theorem A_eq (c : Dev nD) (w : Fin cfg0.W) : (dats m 0 c).A w = V m c (Pipeline.arrRef spec0 w) := by
  dsimp only [dats]

/-- The attention block is left as it came. -/
theorem after_0 (c : Dev nD) (t : Fin cfg0.N) : (dats m 0 c).after 0 t = iblk m c 0 t := by dsimp only [dats]
/-- The row matrix is left as it came. -/
theorem after_1 (c : Dev nD) (t : Fin cfg0.N) : (dats m 0 c).after 1 t = iblk m c 1 t := by dsimp only [dats]
/-- The column matrix is left as it came. -/
theorem after_2 (c : Dev nD) (t : Fin cfg0.N) : (dats m 0 c).after 2 t = iblk m c 2 t := by dsimp only [dats]
/-- The features' block is left as it came. -/
theorem after_3 (c : Dev nD) (t : Fin cfg0.N) : (dats m 0 c).after 3 t = iblk m c 3 t := by dsimp only [dats]
/-- After a point the first output's block is the feature block times the half mask plus 0.1. -/
theorem after_4 (c : Dev nD) (t : Fin cfg0.N) : (dats m 0 c).after 4 t = k0_pay3 (half (grid0.coords t) (maskAt m c t)) (iblk m c 3 t) := by
  dsimp only [dats]
/-- After a point the second output's block is the half mask. -/
theorem after_5 (c : Dev nD) (t : Fin cfg0.N) : (dats m 0 c).after 5 t = k0_pay2 (half (grid0.coords t) (maskAt m c t)) := by
  dsimp only [dats]

/-- The body finds the attention block of its image. -/
theorem before_0 (c : Dev nD) (t : Fin cfg0.N) (d) : (dats m 0 c).before 0 t d = iblk m c 0 t :=
  before0_0_of m (dats m 0 c) (A_eq m c 0) (after_0 m c) t d
/-- The body finds the row matrix. -/
theorem before_1 (c : Dev nD) (t : Fin cfg0.N) (d) : (dats m 0 c).before 1 t d = iblk m c 1 t :=
  before0_1_of m (dats m 0 c) (A_eq m c 1) (after_1 m c) t d
/-- The body finds the column matrix. -/
theorem before_2 (c : Dev nD) (t : Fin cfg0.N) (d) : (dats m 0 c).before 2 t d = iblk m c 2 t :=
  before0_2_of m (dats m 0 c) (A_eq m c 2) (after_2 m c) t d
/-- The body finds its block of the features. -/
theorem before_3 (c : Dev nD) (t : Fin cfg0.N) (d) : (dats m 0 c).before 3 t d = iblk m c 3 t :=
  before0_3_of m (dats m 0 c) (A_eq m c 3) (after_3 m c) t d

/-- At an odd point the second output's buffer still holds the half mask the point before wrote. -/
theorem before_5 (c : Dev nD) (t : Fin cfg0.N) (h : t.val % 2 = 1) (d) :
    (dats m 0 c).before 5 t d = k0_pay2 (half (grid0.coords t) (maskAt m c t)) := by
  have ht : t.val < 16 := Nat.lt_of_lt_of_eq t.isLt N_0
  have hlt : t.val - 1 < cfg0.N := Nat.lt_of_le_of_lt (Nat.sub_le _ _) t.isLt
  have hf : (cfg0.win 5).flush ⟨t.val - 1, hlt⟩ = false := by
    cases hf : (cfg0.win 5).flush ⟨t.val - 1, hlt⟩
    · rfl
    · exact absurd ((flush0_5 ⟨t.val - 1, hlt⟩).mp hf) (by show (t.val - 1) % 2 ≠ 1; omega)
  have hl : cfg0.idle 5 (grid0.coords ⟨t.val - 1, hlt⟩) = false := by
    show (!(k0_cond2 (grid0.coords ⟨t.val - 1, hlt⟩) == 1#1)) = false
    rw [(firstOfHalf_iff ⟨t.val - 1, hlt⟩).mpr (by show (t.val - 1) % 2 = 0; omega)]; rfl
  have hk : (dats m 0 c).before 5 t d = (dats m 0 c).after 5 ⟨t.val - 1, hlt⟩ := by
    rw [(dats m 0 c).before_of_pos 5 t (by omega) ((cfg0.win 5).fetch_out rfl t), hf, if_neg Bool.false_ne_true]
    unfold Dat.left; rw [hl]
    unfold Dat.kept
    rw [Pipeline.fill_of_clip_none 5 _ (fun _ => rfl) d ((dats m 0 c).after 5 _), Window.fill_cut]
  rw [hk, after_5, maskAt_pred m c (t := t) (by omega) rfl]
  refine congrArg k0_pay2 (half_congr (Fin.ext ?_) _)
  rw [show (grid0.coords ⟨t.val - 1, hlt⟩ 1).val = (t.val - 1) / 2 % 2 from Pipeline.Grid.coords_val _ 1 (by decide) rfl,
    show (grid0.coords t 1).val = t.val / 2 % 2 from Pipeline.Grid.coords_val t 1 (by decide) rfl]
  omega

/-- At an image's start nothing is known of the stored mask. -/
theorem held_begin (c : Dev nD) {n : Nat} (hn : n ≤ cfg0.N) (h : n % 4 = 0) :
    held m c n hn = (iprop(∃ d, owns (c : Thread nD τ) (Memref.whole cc0_scratch0) fullShare d) : sProp 𝕄) := by
  unfold held; rw [dif_pos h]

/-- Inside an image the scratch buffer holds its mask. -/
theorem held_inside (c : Dev nD) (t : Fin cfg0.N) (h : t.val % 4 ≠ 0) :
    held m c t.val (Nat.le_of_lt t.isLt) = (owns (c : Thread nD τ) (Memref.whole cc0_scratch0) fullShare (maskAt m c t) : sProp 𝕄) := by
  unfold held; rw [dif_neg h, maskAt_pred m c h rfl]

/-- A scratch buffer holding the image's mask after a point holds what the next point expects. -/
theorem held_succ (c : Dev nD) (t : Fin cfg0.N) :
    (owns (c : Thread nD τ) (Memref.whole cc0_scratch0) fullShare (maskAt m c t) : sProp 𝕄) ⊢ held m c (t.val + 1) t.isLt := by
  unfold held
  split
  · iintro H; iexists _; iexact H
  · exact .rfl

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- The second output's buffer is handed over at its half mask at every point: written at the even points, written back at the odd ones. -/
theorem leaves_5 (c : Dev nD) (t : Fin cfg0.N) :
    (dats m 0 c).leavesExact 5 t = (owns (c : Thread nD τ) (st0_5 t) fullShare ((dats m 0 c).after 5 t) : sProp 𝕄) := by
  unfold Dat.leavesExact
  by_cases h : t.val % 2 = 0
  · have hl : cfg0.idle 5 (grid0.coords t) = false := by
      show (!(k0_cond2 (grid0.coords t) == 1#1)) = false
      rw [(firstOfHalf_iff t).mpr h]; rfl
    rw [hl]
  · rw [(flush0_5 t).mpr (by omega)]
    cases cfg0.idle 5 (grid0.coords t) <;> rfl

set_option maxHeartbeats 1200000 in
/-- The body takes every point from what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [leaves_5, after_5,
    show (dats m 0 c).leavesExact 0 t = owns (c : Thread nD τ) (st0_0 t) fullShare ((dats m 0 c).after 0 t) from rfl, after_0,
    show (dats m 0 c).leavesExact 1 t = owns (c : Thread nD τ) (st0_1 t) fullShare ((dats m 0 c).after 1 t) from rfl, after_1,
    show (dats m 0 c).leavesExact 2 t = owns (c : Thread nD τ) (st0_2 t) fullShare ((dats m 0 c).after 2 t) from rfl, after_2,
    show (dats m 0 c).leavesExact 3 t = owns (c : Thread nD τ) (st0_3 t) fullShare ((dats m 0 c).after 3 t) from rfl, after_3,
    show (dats m 0 c).leavesExact 4 t = owns (c : Thread nD τ) (st0_4 t) fullShare ((dats m 0 c).after 4 t) from rfl, after_4,
    show (dats m 0 c).owesAt () t.succ = (dats m 0 c).owesAt () t.castSucc from rfl,
    show (dats m 0 c).Φ t.succ = iprop(held m c (t.val + 1) t.isLt ∗ (∃ r, prngReg c r)) from rfl,
    show (dats m 0 c).Φ t.castSucc = iprop(held m c t.val (Nat.le_of_lt t.isLt) ∗ (∃ r, prngReg c r)) from rfl]
  simp only [before_0, before_1, before_2, before_3]
  by_cases h0 : t.val % 4 = 0
  · rw [held_begin m c _ h0]
    have hm : maskAt m c t = k0_pay1 (iblk m c 0 t) (iblk m c 1 t) (iblk m c 2 t) := by unfold maskAt; rw [start_of_mod h0]
    have hs := held_succ m c t
    rw [hm] at hs ⊢
    generalize iblk m c 0 t = x0 at hs ⊢
    generalize iblk m c 1 t = x1 at hs ⊢
    generalize iblk m c 2 t = x2 at hs ⊢
    generalize iblk m c 3 t = x3
    generalize held m c (t.val + 1) t.isLt = next at hs ⊢
    generalize (dats m 0 c).owesAt () t.castSucc = owed
    generalize (dats m 0 c).before 4 t = b4
    generalize (dats m 0 c).before 5 t = b5
    iintro ⟨⟨HS, Hg⟩, Ho, ⟨%d0, H0⟩, ⟨%d1, H1⟩, ⟨%d2, H2⟩, ⟨%d3, H3⟩, ⟨%d4, H4⟩, ⟨%d5, H5⟩⟩
    iapply (run_first c (grid0.coords t) _ _ _ _ _ _ _ _ _ _ _ _ _ _ ((firstOfImage_iff t).mpr h0) ((firstOfHalf_iff t).mpr (by omega)) x0 x1 x2 x3 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hg]
    · isplitl [HS]
      · iapply hs
        iexact HS
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [held_inside m c t h0]
    by_cases h1 : t.val % 2 = 0
    · have hs := held_succ m c t
      generalize maskAt m c t = mask at hs ⊢
      generalize iblk m c 0 t = x0
      generalize iblk m c 1 t = x1
      generalize iblk m c 2 t = x2
      generalize iblk m c 3 t = x3
      generalize held m c (t.val + 1) t.isLt = next at hs ⊢
      generalize (dats m 0 c).owesAt () t.castSucc = owed
      generalize (dats m 0 c).before 4 t = b4
      generalize (dats m 0 c).before 5 t = b5
      iintro ⟨⟨HS, Hg⟩, Ho, ⟨%d0, H0⟩, ⟨%d1, H1⟩, ⟨%d2, H2⟩, ⟨%d3, H3⟩, ⟨%d4, H4⟩, ⟨%d5, H5⟩⟩
      iapply (run_half c (grid0.coords t) _ _ _ _ _ _ _ _ _ _ _ _ _ _ (fun h => h0 ((firstOfImage_iff t).mp h)) ((firstOfHalf_iff t).mpr h1) x0 x1 x2 x3 mask Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS]; · iexact HS
      iintro ⟨H0, H1, H2, H3, H4, H5, HS⟩
      isplitl [HS Hg]
      · isplitl [HS]
        · iapply hs
          iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · simp only [before_5 m c t (by omega)]
      have hs := held_succ m c t
      generalize maskAt m c t = mask at hs ⊢
      generalize iblk m c 0 t = x0
      generalize iblk m c 1 t = x1
      generalize iblk m c 2 t = x2
      generalize iblk m c 3 t = x3
      generalize held m c (t.val + 1) t.isLt = next at hs ⊢
      generalize (dats m 0 c).owesAt () t.castSucc = owed
      generalize (dats m 0 c).before 4 t = b4
      iintro ⟨⟨HS, Hg⟩, Ho, ⟨%d0, H0⟩, ⟨%d1, H1⟩, ⟨%d2, H2⟩, ⟨%d3, H3⟩, ⟨%d4, H4⟩, ⟨%d5, H5⟩⟩
      iapply (run_rest c (grid0.coords t) _ _ _ _ _ _ _ _ _ _ _ _ _ _ (fun h => h0 ((firstOfImage_iff t).mp h)) (fun h => h1 ((firstOfHalf_iff t).mp h)) x0 x1 x2 x3 mask _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS]; · iexact HS
      iintro ⟨H0, H1, H2, H3, H4, H5, HS⟩
      isplitl [HS Hg]
      · isplitl [HS]
        · iapply hs
          iexact HS
        iexact Hg
      isplitl [Ho]; · iexact Ho
      isplitl [H0]; · iexact H0
      isplitl [H1]; · iexact H1
      isplitl [H2]; · iexact H2
      isplitl [H3]; · iexact H3
      isplitl [H4]; · iexact H4
      iexact H5

/-- The body table's row at point `t` is the body at that point. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- The scratch buffer at anything and the generator's register, as the launch hands them over. -/
theorem scratch_eq (c : Dev nD) :
    (Pipeline.ΦA spec0 c : sProp 𝕄)
      = iprop(iprop(∃ d, owns (c : Thread nD τ) (Memref.whole cc0_scratch0) fullShare d) ∗ (∃ r, prngReg c r)) := by
  unfold Pipeline.ΦA; rw [scopedRest0_eq]; simp only [owns_whole]; try rfl

set_option backward.isDefEq.respectTransparency.types false in
/-- Every execution of the printed program ends, with each staged array at what the blocks written back make of it, everything else
    as the kernel found it, and every counter at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by
      rw [scratch_eq, show (dats m 0 c).Φ 0 = iprop(held m c 0 (Nat.zero_le _) ∗ (∃ r, prngReg c r)) from rfl, held_begin m c _ rfl])
    (hout := fun c => by
      rw [scratch_eq, show (dats m 0 c).Φ (Fin.last cfg0.N) = iprop(held m c cfg0.N le_rfl ∗ (∃ r, prngReg c r)) from rfl,
        held_begin m c _ (show cfg0.N % 4 = 0 from by rw [show cfg0.N = 16 from N_0])])

/-- The frame, at any float values: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Upsample

end
-- ==== Proof.Arrays.lean ====
/-
  The kernel's two result arrays after the run, index by index, from the masks of the four images; and the mask itself,
  read at one of its entries.
-/
module

public import proofs.«01_k».proof.Proof.Blocks
public import Idealize.ShloMosaic.Lib.Pipeline.ValueKit
public import Idealize.ShloMosaic.Lib.Pointwise

@[expose] public section

set_option maxRecDepth 16384

noncomputable section

namespace Cert.KernelIdeal.Upsample

open Cert.KernelIdeal.Gen
open Idealize.ShloMosaic Idealize.ShloMosaic.TcCoe
open Idealize.SL.Sem
open Idealize.ShloMosaic.Pipeline (Dat Cfg Window)

/-! ## The payloads at an index -/

/-- The row at which a point reads the whole mask. -/
theorem offset_val (t : Fin cfg0.N) : k0_off1 (grid0.coords t) = ![192 * (t.val / 2 % 2), 0] := by
  revert t
  decide +kernel

/-- Row `r` of the half mask a point works on is row `192·h + r` of the whole mask, `h` the point's second coordinate. -/
theorem half_apply (t : Fin cfg0.N) (mask : Vec Ideal S384x384 .f32) (r : Fin 192) (q : Fin 384) :
    half (grid0.coords t) mask (ix2 r q) = mask (ix2 ⟨192 * (t.val / 2 % 2) + r.val, by omega⟩ q) := by
  refine View.ld_unit_apply_of mask _ _ _ _ _ fun a => ?_
  rw [congrFun (offset_val t) a]
  match a with
  | ⟨0, _⟩ => rfl
  | ⟨1, _⟩ => exact (Nat.zero_add _).symm

/-- The second output's block is the half mask, under two unit axes. -/
theorem pay2_apply (v : Vec Ideal S192x384 .f32) (y : S1x1x192x384.Idx) : k0_pay2 v y = v (ix2 (y 2) (y 3)) := by
  pointwise [k0_pay2]

/-- The first output's block is the features' block times the half mask raised by a tenth. -/
theorem pay3_apply (v : Vec Ideal S192x384 .f32) (x : Vec Ideal S1x48x192x384 .f32) (y : S1x48x192x384.Idx) :
    k0_pay3 v x y = (x y : EReal) * (v (ix2 (y 2) (y 3)) + Ideal.ofBits .f32 0x3DCCCCCD#32) := by
  pointwise [k0_pay3]

/-- The mask at an entry: the logistic function of the two products. -/
theorem pay1_apply (x : Vec Ideal S1x1x192x192 .f32) (R : Vec Ideal S384x192 .f32) (C : Vec Ideal S192x384 .f32) (r q : Fin 384) :
    (k0_pay1 x R C (ix2 r q) : EReal) = Ideal.logistic (Ideal.ofBits .f32 0x41200000#32 *
      ((∑ k : Fin 192, (∑ l : Fin 192, R (ix2 r l) * x (ix4 0 0 l k)) * C (ix2 k q)) - Ideal.ofBits .f32 0x3F000000#32)) := by
  pointwise [k0_pay1]

variable (m : (ℓ : Loc nD τ sig) → Buf (Elt Ideal) ℓ) (ρ : Dev nD → PrngReg)

/-- The first point of image `b`. -/
def imagePt (b : Fin 4) : Fin cfg0.N := ⟨4 * b.val, by rw [show cfg0.N = 16 from N_0]; omega⟩

/-- The mask the kernel computes for image `b`. -/
def maskOf (c : Dev nD) (b : Fin 4) : Vec Ideal S384x384 .f32 := maskAt m c (imagePt b)

/-- Every point of image `b` works with that image's mask. -/
theorem maskAt_eq (c : Dev nD) (t : Fin cfg0.N) (b : Fin 4) (h : b.val = t.val / 4) : maskAt m c t = maskOf m c b := by
  have e : start t = start (imagePt b) := Fin.ext (by show t.val / 4 * 4 = 4 * b.val / 4 * 4; omega)
  unfold maskOf maskAt
  rw [e]

/-- The second result array: the mask of each image. -/
def maskArray (c : Dev nD) : S4x1x384x384.Idx → Elt Ideal .f32 := fun i => maskOf m c (i 0) (ix2 (i 2) (i 3))

/-- The block of the mask array at a point: its image and its half. -/
theorem index_5 : ∀ t : Fin cfg0.N, win0_5.index t = ![t.val / 4, 0, t.val / 2 % 2, 0] := by decide +kernel
/-- The block of the weighted features at a point: its image, its channel group, its half. -/
theorem index_4 : ∀ t : Fin cfg0.N, win0_4.index t = ![t.val / 4, t.val % 2, t.val / 2 % 2, 0] := by decide +kernel
/-- The block of the features at a point: the same as the weighted features'. -/
theorem index_3 : ∀ t : Fin cfg0.N, win0_3.index t = ![t.val / 4, t.val % 2, t.val / 2 % 2, 0] := by decide +kernel

/-- After the run the second result array holds the masks. -/
theorem final_5 (c : Dev nD) : (dats m 0 c).arrAt 5 cfg0.N = maskArray m c := by
  refine (dats m 0 c).arrAt_eq_of_covers 5 _ (by decide +kernel) fun t hf y => ?_
  blk_simp
  rw [after_5]
  unfold maskArray
  refine (pay2_apply _ y).trans ((half_apply t _ (y 2) (y 3)).trans ?_)
  rw [maskAt_eq m c t ((win0_5.blk t).view.emb y 0) (by blk_simp [index_5])]
  congr 1
  blk_ext [index_5]

/-- The first argument. -/
def feat (c : Dev nD) : S4x96x384x384.Idx → EReal := m ((c : Thread nD τ).loc main_arg0)

/-- The first result array: the features weighted by the mask raised by a tenth. -/
def weighted (c : Dev nD) : S4x96x384x384.Idx → Elt Ideal .f32 := fun i =>
  feat m c i * ((maskOf m c (i 0) (ix2 (i 2) (i 3)) : EReal) + Ideal.ofBits .f32 0x3DCCCCCD#32)

/-- The features' block at a point, inside the array. -/
theorem iblk_3 (c : Dev nD) (t : Fin cfg0.N) (y : S1x48x192x384.Idx) : iblk m c 3 t y = feat m c ((win0_4.blk t).view.emb y) := by
  have e : (iblk m c 3 t : S1x48x192x384.Idx → EReal) = (win0_3.blk t).view.read (Elt Ideal) (feat m c) :=
    congrArg ((win0_3.blk t).view.read (Elt Ideal)) (V_main_arg0 m c)
  rw [e]
  generalize feat m c = X
  blk_simp
  congr 1
  blk_ext [index_3, index_4]

/-- The mask array at a place of a block of the first output. -/
theorem place_4 (t : Fin cfg0.N) (y : S1x48x192x384.Idx) :
    (ix2 ⟨192 * (t.val / 2 % 2) + (y 2).val, by idx_bounds y; omega⟩ (y 3) : S384x384.Idx) =
      ix2 ((win0_4.blk t).view.emb y 2) ((win0_4.blk t).view.emb y 3) := by
  blk_ext [index_4]

/-- After the run the first result array holds the weighted features. -/
theorem final_4 (c : Dev nD) : (dats m 0 c).arrAt 4 cfg0.N = weighted m c := by
  refine (dats m 0 c).arrAt_eq_of_covers 4 _ (by decide +kernel) fun t hf y => ?_
  blk_simp
  rw [after_4]
  unfold weighted
  refine (pay3_apply _ _ y).trans ?_
  have hb := maskAt_eq m c t ((win0_4.blk t).view.emb y 0) (by blk_simp [index_4])
  have hp := place_4 t y
  have hx := iblk_3 m c t y
  rw [half_apply t _ (y 2) (y 3), hb, hp, hx]
  rfl

end Cert.KernelIdeal.Upsample

end
-- ==== Proof.Coordinates.lean ====
/-
  One output coordinate of the doubling: the two input coordinates it lies between and their weights, as the printed
  programs compute them, and what those numbers are.
-/
module

public import Idealize.ShloMosaic.Lib.Pointwise

@[expose] public section

noncomputable section

namespace Cert.Upsample

open Idealize.ShloMosaic

/-! ## As computed -/

/-- Where output coordinate `o` falls among the input's. -/
def srcAt (o : Fin 384) : EReal :=
  max (Ideal.div (FloatOps.sitofp (F := Ideal) FTy.f32 (BitVec.ofNat 32 o.val) + Ideal.ofBits FTy.f32 0x3F000000#32) (Ideal.ofBits FTy.f32 0x40000000#32)
    - Ideal.ofBits FTy.f32 0x3F000000#32) 0
/-- The input coordinate below, as a word. -/
def lowAt (o : Fin 384) : BitVec 32 :=
  IntOp.minsi 191#32 (IntOp.maxsi 0#32 (FloatOps.fptosi (F := Ideal) (φ := FTy.f32) 32 (Ideal.liftRound Int.floor (srcAt o))))
/-- The input coordinate above, as a word. -/
def highAt (o : Fin 384) : BitVec 32 := IntOp.minsi (IntOp.addi (lowAt o) 1#32) 191#32
/-- The weight of the coordinate above. -/
def wHighAt (o : Fin 384) : EReal := srcAt o - FloatOps.sitofp (F := Ideal) FTy.f32 (lowAt o)
/-- The weight of the coordinate below. -/
def wLowAt (o : Fin 384) : EReal := 1 - wHighAt o

/-! ## What they are -/

/-- The input coordinate below. -/
def lowIdx (o : Fin 384) : Fin 192 := ⟨(o.val - 1) / 2, by omega⟩
/-- The input coordinate above, the last one at the end. -/
def highIdx (o : Fin 384) : Fin 192 := ⟨min ((o.val - 1) / 2 + 1) 191, by omega⟩

/-- The literal one half. -/
theorem half_val : Ideal.ofBits FTy.f32 0x3F000000#32 = ((1 / 2 : ℝ) : EReal) := by
  simp [Ideal.ofBits, Ideal.ieee, -EReal.coe_mul]; norm_num
/-- The literal two. -/
theorem two_val : Ideal.ofBits FTy.f32 0x40000000#32 = ((2 : ℝ) : EReal) := by
  simp [Ideal.ofBits, Ideal.ieee, -EReal.coe_mul]; norm_num

/-- A small number, as a word, reads as itself. -/
theorem word_toInt (n : Nat) (h : n < 384) : (BitVec.ofNat 32 n).toInt = (n : Int) := by
  rw [BitVec.toInt_eq_toNat_of_lt (by rw [BitVec.toNat_ofNat]; omega), BitVec.toNat_ofNat]
  omega

/-- The source position as a real number. -/
theorem srcAt_eq (o : Fin 384) : srcAt o = ((max (((o.val : ℝ) + 1 / 2) / 2 - 1 / 2) 0 : ℝ) : EReal) := by
  have e : FloatOps.sitofp (F := Ideal) FTy.f32 (BitVec.ofNat 32 o.val) = (((o.val : ℝ)) : EReal) := by
    show (((BitVec.ofNat 32 o.val).toInt : ℝ) : EReal) = _
    rw [word_toInt _ o.isLt]; simp
  unfold srcAt
  rw [e, half_val, two_val, ← EReal.coe_add, Ideal.div_coe (by norm_num), ← EReal.coe_mul, ← EReal.coe_sub, ← EReal.coe_zero,
    ← EReal.coe_strictMono.monotone.map_max]
  congr 2
  ring

/-- The floor of the coordinate: `⌊(o - ½) / 2⌋`, and `0` at the first. -/
theorem floor_src (o : Fin 384) : ⌊(max (((o.val : ℝ) + 1 / 2) / 2 - 1 / 2) 0 : ℝ)⌋ = ((lowIdx o).val : ℤ) := by
  rw [Int.floor_eq_iff]
  obtain ⟨n, hn⟩ := o
  show (((((n - 1) / 2 : ℕ) : ℤ) : ℝ)) ≤ _ ∧ _ < (((((n - 1) / 2 : ℕ) : ℤ) : ℝ)) + 1
  rw [Int.cast_natCast]
  rcases Nat.eq_zero_or_pos n with h0 | h0
  · subst h0; norm_num
  · have h1 : 2 * ((n - 1) / 2) + 1 ≤ n := by omega
    have h2 : n ≤ 2 * ((n - 1) / 2) + 2 := by omega
    have h1' : 2 * (((n - 1) / 2 : ℕ) : ℝ) + 1 ≤ n := by exact_mod_cast h1
    have h2' : (n : ℝ) ≤ 2 * (((n - 1) / 2 : ℕ) : ℝ) + 2 := by exact_mod_cast h2
    have h3 : (0 : ℝ) ≤ (((n - 1) / 2 : ℕ) : ℝ) := Nat.cast_nonneg _
    constructor
    · exact le_max_of_le_left (by show _ ≤ ((n : ℝ) + 1 / 2) / 2 - 1 / 2; linarith)
    · refine max_lt ?_ (by linarith)
      show ((n : ℝ) + 1 / 2) / 2 - 1 / 2 < _
      linarith

/-- Clipping leaves an input coordinate alone. -/
theorem clip_word : ∀ k : Fin 192, IntOp.minsi 191#32 (IntOp.maxsi 0#32 (BitVec.ofNat 32 k.val)) = BitVec.ofNat 32 k.val := by decide +kernel
/-- The next coordinate, clipped at the last. -/
theorem next_word : ∀ k : Fin 192, IntOp.minsi (IntOp.addi (BitVec.ofNat 32 k.val) 1#32) 191#32 = BitVec.ofNat 32 (min (k.val + 1) 191) := by decide +kernel

/-- The computed coordinate below is `(o - 1) / 2`, the subtraction stopping at zero. -/
theorem lowAt_eq (o : Fin 384) : lowAt o = BitVec.ofNat 32 (lowIdx o).val := by
  have hl := (lowIdx o).isLt
  have e : FloatOps.fptosi (F := Ideal) (φ := FTy.f32) 32 (Ideal.liftRound Int.floor (srcAt o)) = BitVec.ofNat 32 (lowIdx o).val := by
    show Ideal.fptosi 32 (Ideal.liftRound Int.floor (srcAt o)) = _
    rw [srcAt_eq, Ideal.liftRound_coe, floor_src, Ideal.fptosi, Ideal.toIntClamped_coe]
    rw [if_pos (by simp), Int.floor_intCast, min_eq_right (by norm_num; omega), max_eq_right (by norm_num)]
    exact BitVec.ofInt_natCast _ _
  unfold lowAt
  rw [e, clip_word]

/-- The computed coordinate above is the next one, or the last. -/
theorem highAt_eq (o : Fin 384) : highAt o = BitVec.ofNat 32 (highIdx o).val := by
  unfold highAt
  rw [lowAt_eq, next_word]
  rfl

/-- The weight of the coordinate above is a real number from `0` to `1`. -/
theorem wHighAt_real (o : Fin 384) : ∃ r : ℝ, 0 ≤ r ∧ r ≤ 1 ∧ wHighAt o = (r : EReal) := by
  have hl := (lowIdx o).isLt
  have hf := floor_src o
  rw [Int.floor_eq_iff] at hf
  refine ⟨max (((o.val : ℝ) + 1 / 2) / 2 - 1 / 2) 0 - ((lowIdx o).val : ℝ), ?_, ?_, ?_⟩
  · have := hf.1; push_cast at this; linarith
  · have := hf.2; push_cast at this; linarith
  · unfold wHighAt
    rw [srcAt_eq, lowAt_eq]
    have e : FloatOps.sitofp (F := Ideal) FTy.f32 (BitVec.ofNat 32 (lowIdx o).val) = (((lowIdx o).val : ℝ) : EReal) := by
      show (((BitVec.ofNat 32 (lowIdx o).val).toInt : ℝ) : EReal) = _
      rw [word_toInt _ (by omega)]; simp
    rw [e, ← EReal.coe_sub]

/-- The weight above is not negative. -/
theorem wHighAt_nonneg (o : Fin 384) : 0 ≤ wHighAt o := by
  obtain ⟨r, h0, h1, e⟩ := wHighAt_real o
  rw [e]; exact_mod_cast h0

/-- The weight below is not negative. -/
theorem wLowAt_nonneg (o : Fin 384) : 0 ≤ wLowAt o := by
  obtain ⟨r, h0, h1, e⟩ := wHighAt_real o
  unfold wLowAt
  rw [e, ← EReal.coe_one, ← EReal.coe_sub]
  exact_mod_cast sub_nonneg.mpr h1

/-! ## A row of the interpolation matrix against a vector -/

/-- An indicator at one coordinate, weighted, summed against a vector, reads the vector there. -/
theorem sum_hit (w : EReal) (a : Fin 192) (x : Fin 192 → EReal) :
    ∑ l : Fin 192, w * (if l = a then 1 else 0) * x l = x a * w := by
  rw [Finset.sum_eq_single a]
  · rw [if_pos rfl, mul_one, mul_comm]
  · intro l _ h; rw [if_neg h, mul_zero, zero_mul]
  · intro h; exact absurd (Finset.mem_univ a) h

/-- Two nonnegative weights at two coordinates, equal or not, summed against a vector: the weighted sum of its two entries. -/
theorem sum_two_hits {p q : EReal} (hp : 0 ≤ p) (hq : 0 ≤ q) (a b : Fin 192) (x : Fin 192 → EReal) :
    ∑ l : Fin 192, (p * (if l = a then 1 else 0) + q * (if l = b then 1 else 0)) * x l = x a * p + x b * q := by
  rw [← sum_hit p a x, ← sum_hit q b x, ← Finset.sum_add_distrib]
  refine Finset.sum_congr rfl fun l _ => ?_
  refine EReal.right_distrib_of_nonneg ?_ ?_
  · split
    · rwa [mul_one]
    · rw [mul_zero]
  · split
    · rwa [mul_one]
    · rw [mul_zero]

/-- The bit "coordinate `l` is `a`" as a number. -/
theorem hit_val (l a : Fin 192) :
    FloatOps.uitofp (F := Ideal) FTy.f32 (IntOp.cmpi CmpIPredicate.eq (BitVec.ofNat 32 l.val) (BitVec.ofNat 32 a.val)) = (if l = a then (1 : EReal) else 0) := by
  have e : ∀ b : BitVec 1, FloatOps.uitofp (F := Ideal) FTy.f32 b = ((b.toNat : ℝ) : EReal) := fun _ => rfl
  rw [e]
  by_cases h : l = a
  · subst h; simp [IntOp.cmpi]
  · have hne : BitVec.ofNat 32 l.val ≠ BitVec.ofNat 32 a.val := fun h' => h (Fin.ext (by
      have := congrArg BitVec.toNat h'
      rw [BitVec.toNat_ofNat, BitVec.toNat_ofNat] at this
      omega))
    rw [if_neg h]
    simp [IntOp.cmpi, hne]

/-! ## The doubled array -/

/-- The bilinear doubling of a square array at an entry: rows first, then columns. -/
def upAt (x : Fin 192 → Fin 192 → EReal) (r q : Fin 384) : EReal :=
  (x (lowIdx r) (lowIdx q) * wLowAt r + x (highIdx r) (lowIdx q) * wHighAt r) * wLowAt q
    + (x (lowIdx r) (highIdx q) * wLowAt r + x (highIdx r) (highIdx q) * wHighAt r) * wHighAt q

/-- The two matrix products compute the doubling. -/
theorem products_eq (x : Fin 192 → Fin 192 → EReal) (r q : Fin 384) :
    ∑ k : Fin 192, (∑ l : Fin 192, (wLowAt r * (if l = lowIdx r then 1 else 0) + wHighAt r * (if l = highIdx r then 1 else 0)) * x l k)
      * (wLowAt q * (if k = lowIdx q then 1 else 0) + wHighAt q * (if k = highIdx q then 1 else 0)) = upAt x r q := by
  have e : ∀ k : Fin 192, (∑ l : Fin 192, (wLowAt r * (if l = lowIdx r then 1 else 0) + wHighAt r * (if l = highIdx r then 1 else 0)) * x l k)
      = x (lowIdx r) k * wLowAt r + x (highIdx r) k * wHighAt r := fun k =>
    sum_two_hits (wLowAt_nonneg r) (wHighAt_nonneg r) _ _ fun l => x l k
  simp only [e]
  unfold upAt
  rw [← sum_two_hits (wLowAt_nonneg q) (wHighAt_nonneg q) (lowIdx q) (highIdx q) fun k => x (lowIdx r) k * wLowAt r + x (highIdx r) k * wHighAt r]
  exact Finset.sum_congr rfl fun k _ => mul_comm _ _

end Cert.Upsample

end
-- ==== Proof.Matrices.lean ====
/-
  The two interpolation matrices that the kernel's host code builds, as composed terms and at an entry.
-/
module

public import proofs.«01_k».proof.Proof.Gen.KernelIdeal.Frame
public import proofs.«01_k».proof.Proof.Coordinates
public import Idealize.ShloMosaic.Lib.StableHlo.Run
public import Idealize.ShloMosaic.Lib.Pointwise

@[expose] public section

set_option maxRecDepth 16384

noncomputable section

namespace Cert.KernelIdeal.Upsample

open Cert.KernelIdeal.Gen
open Idealize.ShloMosaic Idealize.ShloMosaic.TcCoe Idealize.ShloMosaic.StableHlo
open Idealize.SL.Sem

section Terms
variable {F : FTy → Type} [FloatOps F]

/-- A number at every output coordinate. -/
def everyF (w : BitVec 32) : FVec F S384 .f32 := broadcastInDim S384 ![] bcast_S_S384 (constant S_ .f32 w)
/-- A word at every output coordinate. -/
def everyI (w : BitVec 32) : IVec S384 32 := broadcastInDim S384 ![] bcast_S_S384 (constantI S_ 32 w)
/-- Where each output coordinate falls among the input's: `max ((o + ½) / 2 - ½) 0`. -/
def srcVec : FVec F S384 .f32 :=
  maximumf (subf (Host.divf (addf (sitofp .f32 (iotaInDim S384 32 0)) (everyF 0x3F000000#32)) (everyF 0x40000000#32)) (everyF 0x3F000000#32)) (everyF 0x00000000#32)
/-- The input coordinate below, clipped to the input's range. -/
def lowVec : IVec S384 32 := minsi (everyI 191#32) (maxsi (everyI 0#32) (fptosi 32 (Host.floor (srcVec (F := F)))))
/-- The input coordinate above, clipped to the input's range. -/
def highVec : IVec S384 32 := minsi (addi (lowVec (F := F)) (everyI 1#32)) (everyI 191#32)
/-- The weight of the coordinate above. -/
def wHighVec : FVec F S384 .f32 := subf srcVec (sitofp .f32 (lowVec (F := F)))
/-- The weight of the coordinate below. -/
def wLowVec : FVec F S384 .f32 := subf (everyF 0x3F800000#32) wHighVec
/-- The indicator of one coordinate per row. -/
def hit (i : IVec S384 32) : FVec F S384x192 .f32 :=
  uitofp .f32 (cmpi .eq
    (broadcastInDim S384x192 ![0, 1] bcast_S1x192_S384x192_0_1 (broadcastInDim S1x192 ![1] bcast_S192_S1x192_1 (iotaInDim S192 32 0)))
    (broadcastInDim S384x192 ![0, 1] bcast_S384x1_S384x192_0_1 (broadcastInDim S384x1 ![0] bcast_S384_S384x1_0 i)))
/-- One weight per row, across the row. -/
def across (w : FVec F S384 .f32) : FVec F S384x192 .f32 :=
  broadcastInDim S384x192 ![0, 1] bcast_S384x1_S384x192_0_1 (broadcastInDim S384x1 ![0] bcast_S384_S384x1_0 w)
/-- The interpolation matrix. -/
def interp : FVec F S384x192 .f32 := addf (mulf (across wLowVec) (hit (lowVec (F := F)))) (mulf (across wHighVec) (hit (highVec (F := F))))

variable (m : (ℓ : Loc nD τ sig) → Buf (Elt F) ℓ)

set_option maxHeartbeats 4000000 in
/-- The launch finds the interpolation matrix in its second operand. -/
theorem V_rows (c : Dev nD) : V m c main_v38 = (interp : FVec F S384x192 .f32) := by
  unfold V
  simp only [hostOps0, hostOps0_1, hostOps0_2, hostOps0_3, hostOps0_4, List.flatten_cons, List.flatten_nil, List.append_nil, List.cons_append, List.nil_append,
    TRef.binary, TRef.unary, TRef.toBuf, TRef.ofBuf, cast_eq]
  after_results_simp <;> rfl

set_option maxHeartbeats 4000000 in
/-- The launch finds the transposed matrix in its third operand. -/
theorem V_cols (c : Dev nD) : V m c main_v78 = (transpose S192x384 [1, 0] (interp : FVec F S384x192 .f32) transposes_S384x192_S192x384_1_0) := by
  unfold V
  simp only [hostOps0, hostOps0_1, hostOps0_2, hostOps0_3, hostOps0_4, List.flatten_cons, List.flatten_nil, List.append_nil, List.cons_append, List.nil_append,
    TRef.binary, TRef.unary, TRef.toBuf, TRef.ofBuf, cast_eq]
  after_results_simp <;> rfl

end Terms

/-! ## At an entry -/

open Cert.Upsample

/-- The vector of source positions at a coordinate. -/
theorem srcVec_apply (o : Fin 384) : (srcVec (F := Ideal) (ix1 o) : EReal) = srcAt o := by
  unfold srcAt
  pointwise [srcVec, everyF]

/-- The vector of coordinates below, at a coordinate. -/
theorem lowVec_apply (o : Fin 384) : lowVec (F := Ideal) (ix1 o) = lowAt o := by
  unfold lowAt srcAt
  pointwise [lowVec, srcVec, everyF, everyI]

/-- The vector of coordinates above, at a coordinate. -/
theorem highVec_apply (o : Fin 384) : highVec (F := Ideal) (ix1 o) = highAt o := by
  unfold highAt
  rw [← lowVec_apply]
  pointwise [highVec, everyI]

/-- The vector of upper weights at a coordinate. -/
theorem wHighVec_apply (o : Fin 384) : (wHighVec (F := Ideal) (ix1 o) : EReal) = wHighAt o := by
  unfold wHighAt
  rw [← lowVec_apply, ← srcVec_apply]
  rfl

/-- The vector of lower weights at a coordinate. -/
theorem wLowVec_apply (o : Fin 384) : (wLowVec (F := Ideal) (ix1 o) : EReal) = wLowAt o := by
  unfold wLowAt
  rw [← wHighVec_apply]
  pointwise [wLowVec, everyF]

/-- Row `o` of the matrix: the two weights of output coordinate `o`, each at its input coordinate. -/
theorem interp_apply (o : Fin 384) (l : Fin 192) : (interp (F := Ideal) (ix2 o l) : EReal) =
    wLowAt o * (if l = lowIdx o then 1 else 0) + wHighAt o * (if l = highIdx o then 1 else 0) := by
  have e : (interp (F := Ideal) (ix2 o l) : EReal) =
      (wLowVec (F := Ideal) (ix1 o) : EReal) * FloatOps.uitofp (F := Ideal) FTy.f32 (IntOp.cmpi .eq (BitVec.ofNat 32 l.val) (lowVec (F := Ideal) (ix1 o)))
      + (wHighVec (F := Ideal) (ix1 o) : EReal) * FloatOps.uitofp (F := Ideal) FTy.f32 (IntOp.cmpi .eq (BitVec.ofNat 32 l.val) (highVec (F := Ideal) (ix1 o))) := by
    pointwise [interp, across, hit]
  rw [e, wLowVec_apply, wHighVec_apply, lowVec_apply, highVec_apply, lowAt_eq, highAt_eq, hit_val, hit_val]

/-- The transposed matrix at an entry. -/
theorem interp_transposed_apply (l : Fin 192) (o : Fin 384) :
    (transpose S192x384 [1, 0] (interp (F := Ideal)) transposes_S384x192_S192x384_1_0 (ix2 l o) : EReal) = interp (F := Ideal) (ix2 o l) := by
  generalize interp (F := Ideal) = X
  pointwise []

end Cert.KernelIdeal.Upsample

end
-- ==== Proof.Values.lean ====
/-
  The kernel's run with its two results: the mask of each image is the logistic function of the doubled attention map,
  because the two interpolation matrices have two weights per row and column.
-/
module

public import proofs.«01_k».proof.Proof.Arrays
public import proofs.«01_k».proof.Proof.Matrices

@[expose] public section

set_option maxRecDepth 16384

noncomputable section

namespace Cert.KernelIdeal.Upsample

open Cert.KernelIdeal.Gen Cert.Upsample
open Idealize.ShloMosaic Idealize.ShloMosaic.TcCoe
open Idealize.SL.Sem
open Idealize.ShloMosaic.Pipeline (Dat Cfg Window)

variable (m : (ℓ : Loc nD τ sig) → Buf (Elt Ideal) ℓ) (ρ : Dev nD → PrngReg)

/-- The second argument. -/
def attn (c : Dev nD) : S4x1x192x192.Idx → EReal := m ((c : Thread nD τ).loc main_arg1)

/-- The attention block at a point is its image's. -/
theorem index_0 : ∀ t : Fin cfg0.N, win0_0.index t = ![t.val / 4, 0, 0, 0] := by decide +kernel
/-- The row matrix's block is always the first. -/
theorem index_1 : ∀ t : Fin cfg0.N, win0_1.index t = ![0, 0] := by decide +kernel
/-- The column matrix's block is always the first. -/
theorem index_2 : ∀ t : Fin cfg0.N, win0_2.index t = ![0, 0] := by decide +kernel

/-- The attention block at a point of image `b`. -/
theorem iblk_0 (c : Dev nD) (t : Fin cfg0.N) (b : Fin 4) (h : b.val = t.val / 4) (l k : Fin 192) :
    (iblk m c 0 t : S1x1x192x192.Idx → EReal) (ix4 0 0 l k) = attn m c (ix4 b 0 l k) := by
  have e : (iblk m c 0 t : S1x1x192x192.Idx → EReal) = (win0_0.blk t).view.read (Elt Ideal) (attn m c) :=
    congrArg ((win0_0.blk t).view.read (Elt Ideal)) (V_main_arg1 m c)
  rw [e]
  generalize attn m c = X
  blk_simp
  congr 1
  blk_ext [index_0]

/-- The row matrix's block is the whole matrix. -/
theorem iblk_1 (c : Dev nD) (t : Fin cfg0.N) (r : Fin 384) (l : Fin 192) :
    (iblk m c 1 t : S384x192.Idx → EReal) (ix2 r l) = interp (F := Ideal) (ix2 r l) := by
  have e : (iblk m c 1 t : S384x192.Idx → EReal) = (win0_1.blk t).view.read (Elt Ideal) (interp (F := Ideal)) :=
    congrArg ((win0_1.blk t).view.read (Elt Ideal)) (V_rows m c)
  rw [e]
  generalize interp (F := Ideal) = X
  blk_simp
  congr 1
  blk_ext [index_1]

/-- The column matrix's block is the whole transposed matrix. -/
theorem iblk_2 (c : Dev nD) (t : Fin cfg0.N) (k : Fin 192) (q : Fin 384) :
    (iblk m c 2 t : S192x384.Idx → EReal) (ix2 k q) = interp (F := Ideal) (ix2 q k) := by
  have e : (iblk m c 2 t : S192x384.Idx → EReal) = (win0_2.blk t).view.read (Elt Ideal)
      (transpose S192x384 [1, 0] (interp (F := Ideal)) transposes_S384x192_S192x384_1_0) :=
    congrArg ((win0_2.blk t).view.read (Elt Ideal)) (V_cols m c)
  rw [e, ← interp_transposed_apply]
  generalize transpose S192x384 [1, 0] (interp (F := Ideal)) transposes_S384x192_S192x384_1_0 = X
  blk_simp
  congr 1
  blk_ext [index_2]

/-- The mask of an attention block `x`, when the other two operands hold the interpolation matrix and its transpose. -/
theorem logistic_products (x : Vec Ideal S1x1x192x192 .f32) (R : Vec Ideal S384x192 .f32) (C : Vec Ideal S192x384 .f32)
    (X : Fin 192 → Fin 192 → EReal) (hx : ∀ l k, (x (ix4 0 0 l k) : EReal) = X l k)
    (hR : ∀ r l, (R (ix2 r l) : EReal) = interp (F := Ideal) (ix2 r l))
    (hC : ∀ k q, (C (ix2 k q) : EReal) = interp (F := Ideal) (ix2 q k)) (r q : Fin 384) :
    (k0_pay1 x R C (ix2 r q) : EReal) =
      Ideal.logistic (Ideal.ofBits .f32 0x41200000#32 * (upAt X r q - Ideal.ofBits .f32 0x3F000000#32)) := by
  have e : (∑ k : Fin 192, (∑ l : Fin 192, (R (ix2 r l) : EReal) * x (ix4 0 0 l k)) * C (ix2 k q)) = upAt X r q := by
    rw [← products_eq]
    refine Finset.sum_congr rfl fun k _ => congrArg₂ (· * ·) (Finset.sum_congr rfl fun l _ => ?_) ((hC k q).trans (interp_apply q k))
    exact congrArg₂ (· * ·) ((hR r l).trans (interp_apply r l)) (hx l k)
  rw [pay1_apply, e]

/-- The mask of image `b` at an entry. -/
theorem maskOf_apply (c : Dev nD) (b : Fin 4) (r q : Fin 384) : (maskOf m c b (ix2 r q) : EReal) =
    Ideal.logistic (Ideal.ofBits .f32 0x41200000#32 * (upAt (fun l k => attn m c (ix4 b 0 l k)) r q - Ideal.ofBits .f32 0x3F000000#32)) :=
  logistic_products (iblk m c 0 (start (imagePt b))) (iblk m c 1 (start (imagePt b))) (iblk m c 2 (start (imagePt b))) _
    (fun l k => iblk_0 m c (start (imagePt b)) b (show b.val = 4 * b.val / 4 * 4 / 4 by omega) l k)
    (fun r l => iblk_1 m c (start (imagePt b)) r l) (fun k q => iblk_2 m c (start (imagePt b)) k q) r q

/-- The run: the results at their values, the arguments unchanged. -/
theorem run : θ_run defs (onTc (τ := τ) (main (F := Ideal))) ⟨m, fun _ => 0, ρ⟩ (fun r => ∀ c : Dev nD,
      r.2.mem ((c.tc : Thread nD τ).loc main_v79_0) = weighted m c
      ∧ r.2.mem ((c.tc : Thread nD τ).loc main_v79_1) = maskArray m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).1 4).trans (final_4 m c), ((h.1 c).1 5).trans (final_5 m c),
    ((h.1 c).1 3).trans (((dats m 0 c).arrAt_in 3 rfl _).trans ((A_eq m c 3).trans (V_main_arg0 m c))),
    ((h.1 c).1 0).trans (((dats m 0 c).arrAt_in 0 rfl _).trans ((A_eq m c 0).trans (V_main_arg1 m c)))⟩) (run_main m ρ)

end Cert.KernelIdeal.Upsample

end
-- ==== Proof.Reference.lean ====
/-
  The reference's two results at an index. Its program takes rows and then columns of the input at the computed
  coordinates; here each taken entry is named, and the whole becomes one formula per entry.
-/
module

public import proofs.«01_k».proof.Proof.Gen.ReferenceIdeal.Run
public import proofs.«01_k».proof.Proof.Coordinates
public import Idealize.ShloMosaic.Lib.Pointwise

@[expose] public section

set_option maxRecDepth 16384

noncomputable section

namespace Cert.ReferenceIdeal.Upsample

open Cert.ReferenceIdeal Cert.ReferenceIdeal.Gen Cert.Upsample
open Idealize.ShloMosaic Idealize.ShloMosaic.TcCoe
open Idealize.SL.Sem

/-! ## The terms -/

/-- A number at every output coordinate. -/
def everyF (w : BitVec 32) : FVec Ideal S384 .f32 := broadcastInDim S384 ![] bcast_S_S384 (constant S_ .f32 w)
/-- A word at every output coordinate. -/
def everyI (w : BitVec 32) : IVec S384 32 := broadcastInDim S384 ![] bcast_S_S384 (constantI S_ 32 w)
/-- Where each output coordinate falls among the input's. -/
def srcVec : FVec Ideal S384 .f32 :=
  maximumf (subf (Host.divf (addf (sitofp .f32 (iotaInDim S384 32 0)) (everyF 0x3F000000#32)) (everyF 0x40000000#32)) (everyF 0x3F000000#32)) (everyF 0x00000000#32)
/-- The input coordinate below. -/
def lowVec : IVec S384 32 := minsi (everyI 191#32) (maxsi (everyI 0#32) (fptosi 32 (Host.floor srcVec)))
/-- The input coordinate above. -/
def highVec : IVec S384 32 := minsi (addi lowVec (everyI 1#32)) (everyI 191#32)
/-- The weight of the coordinate above. -/
def wHighVec : FVec Ideal S384 .f32 := subf srcVec (sitofp .f32 lowVec)
/-- The weight of the coordinate below. -/
def wLowVec : FVec Ideal S384 .f32 := subf (everyF 0x3F800000#32) wHighVec
/-- A coordinate counted from the end when it is negative, as a column of start indices. -/
def wrapped (i : IVec S384 32) : IVec S384x1 32 :=
  broadcastInDim S384x1 ![0] bcast_S384_S384x1_0 (select (cmpi .slt i (everyI 0#32)) (addi i (everyI 192#32)) i)

/-- The input's rows at the given coordinates. -/
def rowsAt (x : FVec Ideal S4x1x192x192 .f32) (i : IVec S384 32) : FVec Ideal S4x1x384x192 .f32 :=
  Host.gather gather_S4x1x192x192_S384x1_S4x1x384x192_013_2_n_n_2_1_411192 x (wrapped i)
/-- The columns at the given coordinates. -/
def colsAt (x : FVec Ideal S4x1x384x192 .f32) (i : IVec S384 32) : FVec Ideal S4x1x384x384 .f32 :=
  Host.gather gather_S4x1x384x192_S384x1_S4x1x384x384_012_3_n_n_3_1_413841 x (wrapped i)
/-- One weight per row. -/
def perRow (w : FVec Ideal S384 .f32) : FVec Ideal S4x1x384x192 .f32 :=
  broadcastInDim S4x1x384x192 ![0, 1, 2, 3] bcast_S1x1x384x1_S4x1x384x192_0_1_2_3 (broadcastInDim S1x1x384x1 ![2] bcast_S384_S1x1x384x1_2 w)
/-- One weight per column. -/
def perCol (w : FVec Ideal S384 .f32) : FVec Ideal S4x1x384x384 .f32 :=
  broadcastInDim S4x1x384x384 ![0, 1, 2, 3] bcast_S1x1x1x384_S4x1x384x384_0_1_2_3 (broadcastInDim S1x1x1x384 ![3] bcast_S384_S1x1x1x384_3 w)
/-- The input doubled along its rows. -/
def tall (x : FVec Ideal S4x1x192x192 .f32) : FVec Ideal S4x1x384x192 .f32 :=
  addf (mulf (rowsAt x lowVec) (perRow wLowVec)) (mulf (rowsAt x highVec) (perRow wHighVec))
/-- The input doubled along rows and columns. -/
def doubled (x : FVec Ideal S4x1x192x192 .f32) : FVec Ideal S4x1x384x384 .f32 :=
  addf (mulf (colsAt (tall x) lowVec) (perCol wLowVec)) (mulf (colsAt (tall x) highVec) (perCol wHighVec))
/-- A number at every entry of the mask. -/
def everyM (w : BitVec 32) : FVec Ideal S4x1x384x384 .f32 := broadcastInDim S4x1x384x384 ![] bcast_S_S4x1x384x384 (constant S_ .f32 w)
/-- The mask of a doubled input. -/
def maskOf (u : FVec Ideal S4x1x384x384 .f32) : FVec Ideal S4x1x384x384 .f32 :=
  Host.divf (everyM 0x3F800000#32) (addf (everyM 0x3F800000#32) (Host.exp (Host.negf (mulf (everyM 0x41200000#32) (subf u (everyM 0x3F000000#32))))))
/-- The features weighted by the mask raised by a tenth. -/
def weightedBy (f : FVec Ideal S4x96x384x384 .f32) (k : FVec Ideal S4x1x384x384 .f32) : FVec Ideal S4x96x384x384 .f32 :=
  mulf f (broadcastInDim S4x96x384x384 ![0, 1, 2, 3] bcast_S4x1x384x384_S4x96x384x384_0_1_2_3 (addf k (everyM 0x3DCCCCCD#32)))

variable (m : (ℓ : Loc nD τ sig) → Buf (Elt Ideal) ℓ)

/-- The run's second result is the mask of the doubled input. -/
theorem out1_eq (c : Dev nD) : Value.res_out1 m c = maskOf (doubled (m ((c.tc : Thread nD τ).loc main_arg1))) := rfl

/-- The run's first result is the weighted features. -/
theorem out0_eq (c : Dev nD) : Value.res_out0 m c =
    weightedBy (m ((c.tc : Thread nD τ).loc main_arg0)) (maskOf (doubled (m ((c.tc : Thread nD τ).loc main_arg1)))) := rfl

/-! ## At an index -/

/-- The vector of source positions at a coordinate. -/
theorem srcVec_apply (o : Fin 384) : (srcVec (ix1 o) : EReal) = srcAt o := by
  unfold srcAt
  pointwise [srcVec, everyF]

/-- The vector of coordinates below, at a coordinate. -/
theorem lowVec_apply (o : Fin 384) : lowVec (ix1 o) = lowAt o := by
  unfold lowAt srcAt
  pointwise [lowVec, srcVec, everyF, everyI]

/-- The vector of coordinates above, at a coordinate. -/
theorem highVec_apply (o : Fin 384) : highVec (ix1 o) = highAt o := by
  unfold highAt
  rw [← lowVec_apply]
  pointwise [highVec, everyI]

/-- The vector of upper weights at a coordinate. -/
theorem wHighVec_apply (o : Fin 384) : (wHighVec (ix1 o) : EReal) = wHighAt o := by
  unfold wHighAt
  rw [← lowVec_apply, ← srcVec_apply]
  rfl

/-- The vector of lower weights at a coordinate. -/
theorem wLowVec_apply (o : Fin 384) : (wLowVec (ix1 o) : EReal) = wLowAt o := by
  unfold wLowAt
  rw [← wHighVec_apply]
  pointwise [wLowVec, everyF]

/-- A coordinate inside the input is not wrapped: the start index there is the coordinate. -/
theorem wrapped_toNat (i : IVec S384 32) (o : Fin 384) (k : Fin 192) (h : i (ix1 o) = BitVec.ofNat 32 k.val) :
    min (wrapped i (ix2 o 0)).toInt.toNat 191 = k.val := by
  have e : wrapped i (ix2 o 0) = Scalar.select (IntOp.cmpi .slt (i (ix1 o)) 0#32) (IntOp.addi (i (ix1 o)) 192#32) (i (ix1 o)) := by
    pointwise [wrapped, everyI]
  rw [e, h]
  clear h e
  revert k
  decide +kernel

/-- An entry of the taken rows. -/
theorem rowsAt_apply (x : FVec Ideal S4x1x192x192 .f32) (i : IVec S384 32) (b : Fin 4) (r : Fin 384) (q : Fin 192) (k : Fin 192)
    (h : i (ix1 r) = BitVec.ofNat 32 k.val) : rowsAt x i (ix4 b 0 r q) = x (ix4 b 0 k q) := by
  have hw := wrapped_toNat i r k h
  unfold rowsAt
  generalize wrapped i = w at hw ⊢
  unfold Host.gather
  congr 1
  funext a
  refine Fin.ext ?_
  show GatherDims.start _ _ w a + GatherDims.batchCoord _ _ a + GatherDims.offCoord _ _ a = _
  match a with
  | ⟨0, _⟩ => exact Nat.zero_add _
  | ⟨1, _⟩ => rfl
  | ⟨2, _⟩ =>
    refine Eq.trans ?_ hw
    show min (w _).toInt.toNat 191 = _
    congr 4
    funext b
    match b with
    | ⟨0, _⟩ => rfl
    | ⟨1, _⟩ => rfl
  | ⟨3, _⟩ => exact Nat.zero_add _

/-- An entry of the taken columns. -/
theorem colsAt_apply (x : FVec Ideal S4x1x384x192 .f32) (i : IVec S384 32) (b : Fin 4) (r : Fin 384) (q : Fin 384) (k : Fin 192)
    (h : i (ix1 q) = BitVec.ofNat 32 k.val) : colsAt x i (ix4 b 0 r q) = x (ix4 b 0 r k) := by
  have hw := wrapped_toNat i q k h
  unfold colsAt
  generalize wrapped i = w at hw ⊢
  unfold Host.gather
  congr 1
  funext a
  refine Fin.ext ?_
  show GatherDims.start _ _ w a + GatherDims.batchCoord _ _ a + GatherDims.offCoord _ _ a = _
  match a with
  | ⟨0, _⟩ => exact Nat.zero_add _
  | ⟨1, _⟩ => rfl
  | ⟨2, _⟩ => exact Nat.zero_add _
  | ⟨3, _⟩ =>
    refine Eq.trans ?_ hw
    show min (w _).toInt.toNat 191 = _
    congr 4
    funext b
    match b with
    | ⟨0, _⟩ => rfl
    | ⟨1, _⟩ => rfl

/-- The input doubled along its rows, at an entry. -/
theorem tall_apply (x : FVec Ideal S4x1x192x192 .f32) (b : Fin 4) (r : Fin 384) (q : Fin 192) :
    (tall x (ix4 b 0 r q) : EReal) = (x (ix4 b 0 (lowIdx r) q) : EReal) * wLowAt r + (x (ix4 b 0 (highIdx r) q) : EReal) * wHighAt r := by
  have e : (tall x (ix4 b 0 r q) : EReal) = (rowsAt x lowVec (ix4 b 0 r q) : EReal) * (wLowVec (ix1 r) : EReal)
      + (rowsAt x highVec (ix4 b 0 r q) : EReal) * (wHighVec (ix1 r) : EReal) := by
    unfold tall
    generalize rowsAt x lowVec = X
    generalize rowsAt x highVec = Y
    generalize wLowVec = u
    generalize wHighVec = v
    pointwise [perRow]
  rw [e, rowsAt_apply x lowVec b r q (lowIdx r) ((lowVec_apply r).trans (lowAt_eq r)),
    rowsAt_apply x highVec b r q (highIdx r) ((highVec_apply r).trans (highAt_eq r)), wLowVec_apply, wHighVec_apply]

/-- The doubled input, at an entry: the four neighbours under their weights. -/
theorem doubled_apply (x : FVec Ideal S4x1x192x192 .f32) (b : Fin 4) (r q : Fin 384) :
    (doubled x (ix4 b 0 r q) : EReal) = upAt (fun l k => x (ix4 b 0 l k)) r q := by
  have e : (doubled x (ix4 b 0 r q) : EReal) = (colsAt (tall x) lowVec (ix4 b 0 r q) : EReal) * (wLowVec (ix1 q) : EReal)
      + (colsAt (tall x) highVec (ix4 b 0 r q) : EReal) * (wHighVec (ix1 q) : EReal) := by
    unfold doubled
    generalize colsAt (tall x) lowVec = X
    generalize colsAt (tall x) highVec = Y
    generalize wLowVec = u
    generalize wHighVec = v
    pointwise [perCol]
  rw [e, colsAt_apply (tall x) lowVec b r q (lowIdx q) ((lowVec_apply q).trans (lowAt_eq q)),
    colsAt_apply (tall x) highVec b r q (highIdx q) ((highVec_apply q).trans (highAt_eq q)), wLowVec_apply, wHighVec_apply,
    tall_apply, tall_apply]
  rfl

/-- The mask, at an entry: the logistic function of ten times the input less a half. -/
theorem maskOf_apply (u : FVec Ideal S4x1x384x384 .f32) (b : Fin 4) (r q : Fin 384) :
    (maskOf u (ix4 b 0 r q) : EReal) = Ideal.logistic (Ideal.ofBits .f32 0x41200000#32 * ((u (ix4 b 0 r q) : EReal) - Ideal.ofBits .f32 0x3F000000#32)) := by
  unfold Ideal.logistic
  pointwise [maskOf, everyM]

/-- The weighted features, at an entry. -/
theorem weightedBy_apply (f : FVec Ideal S4x96x384x384 .f32) (k : FVec Ideal S4x1x384x384 .f32) (b : Fin 4) (ch : Fin 96) (r q : Fin 384) :
    (weightedBy f k (ix4 b ch r q) : EReal) = (f (ix4 b ch r q) : EReal) * ((k (ix4 b 0 r q) : EReal) + Ideal.ofBits .f32 0x3DCCCCCD#32) := by
  pointwise [weightedBy, everyM]

end Cert.ReferenceIdeal.Upsample

end
-- ==== Proof.Equation.lean ====
/-
  Kernel and reference have equal results: both masks are the logistic function of the same doubled attention map, and
  both weigh the features by that mask raised by a tenth.
-/
module

public import proofs.«01_k».proof.Proof.Values
public import proofs.«01_k».proof.Proof.Reference

@[expose] public section

noncomputable section

namespace Cert.Proof

open Idealize.ShloMosaic

variable (m : (ℓ : Loc Cert.KernelIdeal.nD Cert.KernelIdeal.τ Cert.KernelIdeal.sig) → Buf (Elt Ideal) ℓ)

/-- The reference's mask at an entry is the kernel's mask of that image there. -/
theorem mask_entry (c : Dev Cert.KernelIdeal.nD) (b : Fin 4) (r q : Fin 384) :
    (Cert.ReferenceIdeal.Upsample.maskOf (Cert.ReferenceIdeal.Upsample.doubled (Cert.KernelIdeal.Upsample.attn m c)) (ix4 b 0 r q) : EReal) =
      Cert.KernelIdeal.Upsample.maskOf m c b (ix2 r q) := by
  rw [Cert.ReferenceIdeal.Upsample.maskOf_apply, Cert.ReferenceIdeal.Upsample.doubled_apply, Cert.KernelIdeal.Upsample.maskOf_apply]

/-- The two mask arrays are equal. -/
theorem mask_eq (c : Dev Cert.KernelIdeal.nD) :
    Cert.ReferenceIdeal.Upsample.maskOf (Cert.ReferenceIdeal.Upsample.doubled (Cert.KernelIdeal.Upsample.attn m c)) =
      Cert.KernelIdeal.Upsample.maskArray m c := by
  funext i
  have hi : i = ix4 (i 0) 0 (i 2) (i 3) := by
    funext a
    match a with
    | ⟨0, _⟩ => rfl
    | ⟨1, _⟩ => exact Subsingleton.elim (α := Fin 1) _ _
    | ⟨2, _⟩ => rfl
    | ⟨3, _⟩ => rfl
  rw [hi]
  exact mask_entry m c (i 0) (i 2) (i 3)

/-- The two weighted features at an entry are equal. -/
theorem weighted_entry (c : Dev Cert.KernelIdeal.nD) (b : Fin 4) (ch : Fin 96) (r q : Fin 384) :
    Cert.ReferenceIdeal.Upsample.weightedBy (Cert.KernelIdeal.Upsample.feat m c)
        (Cert.ReferenceIdeal.Upsample.maskOf (Cert.ReferenceIdeal.Upsample.doubled (Cert.KernelIdeal.Upsample.attn m c))) (ix4 b ch r q) =
      Cert.KernelIdeal.Upsample.weighted m c (ix4 b ch r q) := by
  refine (Cert.ReferenceIdeal.Upsample.weightedBy_apply _ _ b ch r q).trans ?_
  rw [mask_entry]
  rfl

/-- The two arrays of weighted features are equal. -/
theorem weighted_eq (c : Dev Cert.KernelIdeal.nD) :
    Cert.ReferenceIdeal.Upsample.weightedBy (Cert.KernelIdeal.Upsample.feat m c)
        (Cert.ReferenceIdeal.Upsample.maskOf (Cert.ReferenceIdeal.Upsample.doubled (Cert.KernelIdeal.Upsample.attn m c))) =
      Cert.KernelIdeal.Upsample.weighted m c := by
  funext i
  have hi : i = ix4 (i 0) (i 1) (i 2) (i 3) := by
    funext a
    match a with
    | ⟨0, _⟩ => rfl
    | ⟨1, _⟩ => rfl
    | ⟨2, _⟩ => rfl
    | ⟨3, _⟩ => rfl
  rw [hi]
  exact weighted_entry m c (i 0) (i 1) (i 2) (i 3)

end Cert.Proof

end
-- ==== Proof.lean ====
/-
  The certificate: the three frames, and the equality of kernel and reference over the extended reals.
-/
module

public import proofs.«01_k».proof.Defs
public import proofs.«01_k».proof.Proof.SameProgram
public import proofs.«01_k».proof.Proof.Equation
public import Idealize.ShloMosaic.Lib.Quiescent

@[expose] public section

noncomputable section

namespace Cert.Proof

open Idealize.ShloMosaic Idealize.SL.Sem

/-- The kernel, at float words, ends with its arguments unchanged and every counter at zero. -/
theorem kernel_frame : Cert.quiescent_Kernel (hKernel := Cert.Kernel.Gen.facts) :=
  fun m g _ => frame_same (F := Bits) (fun m g => Cert.KernelIdeal.Upsample.frame m g) m g

/-- So does the kernel over the extended reals. -/
theorem kernelIdeal_frame : Cert.quiescent_KernelIdeal (hKernelIdeal := Cert.KernelIdeal.Gen.facts) :=
  fun m g _ => Cert.KernelIdeal.Upsample.frame m g

/-- So does the reference, which has no counters. -/
theorem reference_frame : Cert.quiescent_ReferenceIdeal (hReferenceIdeal := Cert.ReferenceIdeal.Gen.facts) :=
  fun m g _ => (θ_run (Cert.ReferenceIdeal.defs (F := Ideal)) _ _).mono
    (fun r h => ⟨fun c => (h c).2.2, sem_eq_zero_of_no_sems rfl r.2⟩) (Cert.ReferenceIdeal.Value.run m g)

/-- From equal arguments the kernel and the reference end with equal results, both of them. -/
theorem results_equal : Cert.algebraic_KernelIdeal_ReferenceIdeal (hKernelIdeal := Cert.KernelIdeal.Gen.facts)
    (hReferenceIdeal := Cert.ReferenceIdeal.Gen.facts) := by
  intro m g m' g' _ hargs
  refine ⟨Cert.KernelIdeal.Upsample.weighted m, Cert.KernelIdeal.Upsample.maskArray m, Cert.KernelIdeal.Upsample.run m g,
    (θ_run (Cert.ReferenceIdeal.defs (F := Ideal)) _ _).mono (fun r h c => ?_) (Cert.ReferenceIdeal.Value.run m' g')⟩
  obtain ⟨h0, h1, ha⟩ := h c
  obtain ⟨e0, e1⟩ := hargs c
  refine ⟨h0.trans ?_, h1.trans ?_, ha⟩
  · refine (Cert.ReferenceIdeal.Upsample.out0_eq m' c).trans ?_
    rw [e0, e1]
    exact weighted_eq m c
  · refine (Cert.ReferenceIdeal.Upsample.out1_eq m' c).trans ?_
    rw [e1]
    exact mask_eq m c

/-- Everything that is claimed. -/
theorem claim : Cert.Claim := ⟨Cert.Kernel.Gen.facts, Cert.KernelIdeal.Gen.facts, Cert.ReferenceIdeal.Gen.facts,
  kernel_frame, kernelIdeal_frame, reference_frame, trivial, results_equal⟩

end Cert.Proof

end
